-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S1024x1024 : Shape := ⟨2, ![1024, 1024]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) (main_arg2 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_x_finite_ReferenceIdeal.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) (main_arg2 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x1024 : Shape := ⟨2, ![1024, 1024]⟩
abbrev S1024 : Shape := ⟨1, ![1024]⟩
abbrev S2x1024 : Shape := ⟨2, ![2, 1024]⟩
abbrev S512x1024 : Shape := ⟨2, ![512, 1024]⟩
abbrev S4x2x1024 : Shape := ⟨3, ![4, 2, 1024]⟩
abbrev S4 : Shape := ⟨1, ![4]⟩
abbrev S3 : Shape := ⟨1, ![3]⟩
abbrev S1 : Shape := ⟨1, ![1]⟩
abbrev S_ : Shape := ⟨0, ![]⟩
abbrev S128x1024 : Shape := ⟨2, ![128, 1024]⟩
abbrev S128 : Shape := ⟨1, ![128]⟩
abbrev S128x1 : Shape := ⟨2, ![128, 1]⟩
abbrev S1x1024 : Shape := ⟨2, ![1, 1024]⟩
abbrev S1x2x1024 : Shape := ⟨3, ![1, 2, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S2x1024, .f32⟩
  | .local _ .vmem, ⟨1, _⟩ => ⟨S512x1024, .f32⟩
  | .local _ .vmem, ⟨2, _⟩ => ⟨S512x1024, .f32⟩
  | .local _ .vmem, ⟨3, _⟩ => ⟨S2x1024, .f32⟩
  | .local _ .vmem, ⟨4, _⟩ => ⟨S4x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 4 15 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 3

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v13 : BitVec 32 := Scalar.muli v2 c512_i32
  let v14 : BitVec 32 := Scalar.addi v13 c0_i32
  let c0_i32_10 : BitVec 32 := 0#32
  ![v14.toNat, 0]
def k0_dev1 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v51 : BitVec 32 := Scalar.muli v9 c4_i32_39
  let v52 : BitVec 32 := Scalar.addi c0_i32_40 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v53 : BitVec 32 := Scalar.muli v5 c2_i32_41
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v55 : BitVec 32 := Scalar.muli v8 c1_i32_42
  let v56 : BitVec 32 := Scalar.addi v54 v55
  v56.toNat
def k0_dev2 (d0 : Dev nD) : Nat :=
  let c0_i32_46 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_45 : BitVec 32 := 4#32
  let v59 : BitVec 32 := Scalar.muli v9 c4_i32_45
  let v60 : BitVec 32 := Scalar.addi c0_i32_46 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v61 : BitVec 32 := Scalar.muli v5 c2_i32_47
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v63 : BitVec 32 := Scalar.muli v8 c1_i32_48
  let v64 : BitVec 32 := Scalar.addi v62 v63
  v64.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v65 : BitVec 32 := Scalar.muli v2 c4_i32_50
  let v66 : BitVec 32 := Scalar.addi c0_i32_51 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v67 : BitVec 32 := Scalar.muli v5 c2_i32_52
  let v68 : BitVec 32 := Scalar.addi v66 v67
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_53 : BitVec 32 := 1#32
  let v69 : BitVec 32 := Scalar.muli v10 c1_i32_53
  let v70 : BitVec 32 := Scalar.addi v68 v69
  v70.toNat
def k0_dev4 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v73 : BitVec 32 := Scalar.muli v2 c4_i32_56
  let v74 : BitVec 32 := Scalar.addi c0_i32_57 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v75 : BitVec 32 := Scalar.muli v5 c2_i32_58
  let v76 : BitVec 32 := Scalar.addi v74 v75
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_59 : BitVec 32 := 1#32
  let v77 : BitVec 32 := Scalar.muli v10 c1_i32_59
  let v78 : BitVec 32 := Scalar.addi v76 v77
  v78.toNat
def k0_dev5 (d0 : Dev nD) : Nat :=
  let c0_i32_62 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_61 : BitVec 32 := 4#32
  let v79 : BitVec 32 := Scalar.muli v11 c4_i32_61
  let v80 : BitVec 32 := Scalar.addi c0_i32_62 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v81 : BitVec 32 := Scalar.muli v5 c2_i32_63
  let v82 : BitVec 32 := Scalar.addi v80 v81
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_64 : BitVec 32 := 1#32
  let v83 : BitVec 32 := Scalar.muli v12 c1_i32_64
  let v84 : BitVec 32 := Scalar.addi v82 v83
  v84.toNat
def k0_dev6 (d0 : Dev nD) : Nat :=
  let c0_i32_68 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_67 : BitVec 32 := 4#32
  let v87 : BitVec 32 := Scalar.muli v11 c4_i32_67
  let v88 : BitVec 32 := Scalar.addi c0_i32_68 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v89 : BitVec 32 := Scalar.muli v5 c2_i32_69
  let v90 : BitVec 32 := Scalar.addi v88 v89
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_70 : BitVec 32 := 1#32
  let v91 : BitVec 32 := Scalar.muli v12 c1_i32_70
  let v92 : BitVec 32 := Scalar.addi v90 v91
  v92.toNat
def k0_dev7 (d0 : Dev nD) : Nat :=
  let c0_i32_170 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_169 : BitVec 32 := 4#32
  let v285 : BitVec 32 := Scalar.muli v9 c4_i32_169
  let v286 : BitVec 32 := Scalar.addi c0_i32_170 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v287 : BitVec 32 := Scalar.muli v5 c2_i32_171
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v289 : BitVec 32 := Scalar.muli v8 c1_i32_172
  let v290 : BitVec 32 := Scalar.addi v288 v289
  v290.toNat
def k0_dev8 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v301 : BitVec 32 := Scalar.muli v2 c4_i32_184
  let v302 : BitVec 32 := Scalar.addi c0_i32_185 v301
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v303 : BitVec 32 := Scalar.muli v5 c2_i32_186
  let v304 : BitVec 32 := Scalar.addi v302 v303
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_187 : BitVec 32 := 1#32
  let v305 : BitVec 32 := Scalar.muli v10 c1_i32_187
  let v306 : BitVec 32 := Scalar.addi v304 v305
  v306.toNat
def k0_dev9 (d0 : Dev nD) : Nat :=
  let c0_i32_200 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_199 : BitVec 32 := 4#32
  let v317 : BitVec 32 := Scalar.muli v11 c4_i32_199
  let v318 : BitVec 32 := Scalar.addi c0_i32_200 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v319 : BitVec 32 := Scalar.muli v5 c2_i32_201
  let v320 : BitVec 32 := Scalar.addi v318 v319
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_202 : BitVec 32 := 1#32
  let v321 : BitVec 32 := Scalar.muli v12 c1_i32_202
  let v322 : BitVec 32 := Scalar.addi v320 v321
  v322.toNat
abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Schedule.lean ====
/-
# The cross-device protocol of the partial-sum exchange

Eight devices; device `c` has the coordinates `(c/4, c/2 % 2, c % 2)`. Each device exchanges a `2 × 1024` array of
partial sums with three others, its `peer`s 0, 1, 2 (the first coordinate flipped, the last flipped, both flipped).
Per device there are one barrier cell, and for each `d : Fin 3` a credit cell, a send cell and a receive cell:

* barrier cell: three units in one round, one paid by each peer; they hand over nothing.
* credit cell `d` of `c`: one unit, paid by `peer d c`; it hands `c` the landing slot `1 + d` of `peer d c`.
* send cell `d` of `c`: the credit of one slot, paid by `c`'s own copy; it hands back the share of slot 0 the copy read.
* receive cell `d` of `c`: the credit of one slot, paid by the copy of `peer d c`; it hands `c` its landing slot
  `1 + d` holding the partial sums of `peer d c`.

The eight local copies of the input chunks need no such cell: each is issued and awaited by its own device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's own, the exchange's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL

/-- The exchange's rounds inside the algebra. -/
def ER : Emb UB (MT nD τ sig Unit (Elt F) ℕ UU ℕ) :=
  (((Emb.inl : Emb UB (UB × Counters)).trans (Emb.inr : Emb (UB × Counters) UU)).trans
    (uEmb (nD := nD) (sig := sig) (Ix := Unit) (Val := Elt F) (Name := ℕ) (U := UU) (Lvl := ℕ)).toEmb)

instance ER_lands : (ER (F := F)).LandsIn (upEmb : UEmb _ 𝕄) := by unfold ER; infer_instance

abbrev EC : UEmb Counters (MT nD τ sig Unit (Elt F) ℕ UU ℕ) := countersEmb

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The devices -/

set_option backward.proofsInPublic true in
/-- The three devices a device exchanges with. -/
def peer (d : Fin 3) (c : Dev nD) : Dev nD := ⟨(Nat.xor c.val ((![4, 1, 5] : Fin 3 → ℕ) d)) % 8, Nat.mod_lt _ (by decide)⟩

theorem peer_peer (d : Fin 3) (c : Dev nD) : peer d (peer d c) = c := by revert d c; decide

def peerEquiv (d : Fin 3) : Dev nD ≃ Dev nD := ⟨peer d, peer d, peer_peer d, peer_peer d⟩

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 0 c := Fin.ext ((k0_dev2_eq c).trans (by revert c; decide))
theorem dev3_eq (c : Dev nD) : (⟨k0_dev3 c, k0_dev3_lt c⟩ : Dev nD) = peer 1 c := Fin.ext ((k0_dev3_eq c).trans (by revert c; decide))
theorem dev4_eq (c : Dev nD) : (⟨k0_dev4 c, k0_dev4_lt c⟩ : Dev nD) = peer 1 c := Fin.ext ((k0_dev4_eq c).trans (by revert c; decide))
theorem dev5_eq (c : Dev nD) : (⟨k0_dev5 c, k0_dev5_lt c⟩ : Dev nD) = peer 2 c := Fin.ext ((k0_dev5_eq c).trans (by revert c; decide))
theorem dev6_eq (c : Dev nD) : (⟨k0_dev6 c, k0_dev6_lt c⟩ : Dev nD) = peer 2 c := Fin.ext ((k0_dev6_eq c).trans (by revert c; decide))
theorem dev7_eq (c : Dev nD) : (⟨k0_dev7 c, k0_dev7_lt c⟩ : Dev nD) = peer 0 c := Fin.ext ((k0_dev7_eq c).trans (by revert c; decide))
theorem dev8_eq (c : Dev nD) : (⟨k0_dev8 c, k0_dev8_lt c⟩ : Dev nD) = peer 1 c := Fin.ext ((k0_dev8_eq c).trans (by revert c; decide))
theorem dev9_eq (c : Dev nD) : (⟨k0_dev9 c, k0_dev9_lt c⟩ : Dev nD) = peer 2 c := Fin.ext ((k0_dev9_eq c).trans (by revert c; decide))

/-! ## The memrefs -/

abbrev xA : Memref sig .tc .hbm S1024x1024 .f32 := Memref.whole main_arg0
abbrev dyA : Memref sig .tc .hbm S1024x1024 .f32 := Memref.whole main_arg1
abbrev outM : Memref sig .tc .vmem S2x1024 .f32 := Memref.whole cc0_stg0_0
abbrev xV : Memref sig .tc .vmem S512x1024 .f32 := Memref.whole cc0_scratch0
abbrev dyV : Memref sig .tc .vmem S512x1024 .f32 := Memref.whole cc0_scratch1
abbrev accM : Memref sig .tc .vmem S2x1024 .f32 := Memref.whole cc0_scratch2
abbrev commM : Memref sig .tc .vmem S4x2x1024 .f32 := Memref.whole cc0_scratch3

theorem chunk_inb (k : Fin 4) : ∀ a, (![128 * k.val, 0] : Fin 2 → ℕ) a + S128x1024.size a ≤ S512x1024.size a := by revert k; decide
theorem slot_inb (k : Fin 4) : ∀ a, (![k.val, 0, 0] : Fin 3 → ℕ) a + S1x2x1024.size a ≤ S4x2x1024.size a := by revert k; decide

/-- Rows `128 k … 128 k + 127` of a `512 × 1024` scratch buffer. -/
abbrev chunkR (k : Fin 4) : Rect S512x1024 := Rect.unit (s := S512x1024) ![128 * k.val, 0] S128x1024.size (chunk_inb k)
/-- Slot `k` of the exchange buffer. -/
abbrev slotR (k : Fin 4) : Rect S4x2x1024 := Rect.unit (s := S4x2x1024) ![k.val, 0, 0] S1x2x1024.size (slot_inb k)

abbrev xChunk (k : Fin 4) : Memref sig .tc .vmem S128x1024 .f32 := xV.slice (chunkR k) (fun _ => rfl)
abbrev dyChunk (k : Fin 4) : Memref sig .tc .vmem S128x1024 .f32 := dyV.slice (chunkR k) (fun _ => rfl)
abbrev slotM (k : Fin 4) : Memref sig .tc .vmem S2x1024 .f32 := (commM.slice (slotR k) (fun _ => rfl)).squeeze S2x1024 squeezes_S1x2x1024_S2x1024

abbrev srcR (c : Dev nD) (k : Fin 4) : Rect S1024x1024 :=
  Rect.unit (s := S1024x1024) (k0_off1 c (BitVec.ofNat 32 (128 * k.val))) S128x1024.size (k0_off1_inb c k)
/-- Chunk `k` of device `c`'s half of its block of `x` (of `dy`), in the array the copies read. -/
abbrev xSrc (c : Dev nD) (k : Fin 4) : Memref sig .tc .hbm S128x1024 .f32 := xA.slice (srcR c k) (fun _ => rfl)
abbrev dySrc (c : Dev nD) (k : Fin 4) : Memref sig .tc .hbm S128x1024 .f32 := dyA.slice (srcR c k) (fun _ => rfl)

/-- The landing slot of direction `d`. -/
abbrev land (d : Fin 3) : Fin 4 := d.succ

/-! ## The semaphores and the exchange's cells -/

abbrev barS : Sem sig := (SemArray.scalar (sig.barrier 0 rfl) : Sems sig S_).sem
theorem sem3_inb (d : Fin 3) : ∀ a, (![d.val] : Fin 1 → ℕ) a + S1.size a ≤ S3.size a := by revert d; decide
theorem sem4_inb (d : Fin 4) : ∀ a, (![d.val] : Fin 1 → ℕ) a + S1.size a ≤ S4.size a := by revert d; decide
abbrev sendS (d : Fin 3) : DmaSem sig := ((cc0_scratch6.slice (Rect.unit (s := S3) ![d.val] S1.size (sem3_inb d))).squeeze S_ squeezes_S1_S_).sem
abbrev recvS (d : Fin 3) : DmaSem sig := ((cc0_scratch7.slice (Rect.unit (s := S3) ![d.val] S1.size (sem3_inb d))).squeeze S_ squeezes_S1_S_).sem
abbrev credS (d : Fin 3) : Sem sig := ((cc0_scratch8.slice (Rect.unit (s := S3) ![d.val] S1.size (sem3_inb d))).squeeze S_ squeezes_S1_S_).sem
abbrev xS (k : Fin 4) : DmaSem sig := ((cc0_scratch4.slice (Rect.unit (s := S4) ![k.val] S1.size (sem4_inb k))).squeeze S_ squeezes_S1_S_).sem
abbrev dyS (k : Fin 4) : DmaSem sig := ((cc0_scratch5.slice (Rect.unit (s := S4) ![k.val] S1.size (sem4_inb k))).squeeze S_ squeezes_S1_S_).sem

/-- The kinds of cell: the barrier, and per direction credit (0), send (1), receive (2). -/
abbrev Kd : Type := Option (Fin 3 × Fin 3)
abbrev kBar : Kd := none
abbrev kCred (d : Fin 3) : Kd := some (0, d)
abbrev kSend (d : Fin 3) : Kd := some (1, d)
abbrev kRecv (d : Fin 3) : Kd := some (2, d)
def allKd : List Kd := [kBar, kCred 0, kCred 1, kCred 2, kSend 0, kSend 1, kSend 2, kRecv 0, kRecv 1, kRecv 2]

/-- The semaphore of each kind of cell. -/
def ksem : Kd → SemLoc sig
  | none => .reg barS
  | some (0, d) => .reg (credS d)
  | some (1, d) => .dma (sendS d)
  | some (2, d) => .dma (recvS d)

/-- The kind of cell a semaphore is of, if it is one of the exchange's. -/
def kindOf (s : SemLoc sig) : Option Kd := allKd.find? (fun k => decide (ksem k = s))

theorem kindOf_ksem (k : Kd) : kindOf (ksem k) = some k := by revert k; decide

abbrev cell (k : Kd) (c : Dev nD) : GSem nD τ sig := ((c : Thread nD τ), ksem k)

theorem cell_inj {k k' : Kd} {c c' : Dev nD} (h : cell k c = cell k' c') : k = k' ∧ c = c' := by
  have h1 : c = c' := congrArg (fun g : GSem nD τ sig => g.1.1) h
  have h2 : ksem k = ksem k' := congrArg Prod.snd h
  have h3 := congrArg kindOf h2
  rw [kindOf_ksem, kindOf_ksem] at h3
  exact ⟨Option.some.inj h3, h1⟩

/-- The credit of one slot. -/
abbrev N : ℕ := (slotM 0).view.dmaCredit
theorem N_pos : 0 < N := View.dmaCredit_pos _ (by decide)

/-! ## Contents -/

/-- Chunk `k` of device `c`'s half of its block of `x`, and of `dy`. -/
def xBlk (c : Dev nD) (k : Fin 4) : Vec F S128x1024 .f32 := (xSrc c k).view.read (Elt F) (m ((c : Thread nD τ).loc main_arg0))
def dyBlk (c : Dev nD) (k : Fin 4) : Vec F S128x1024 .f32 := (dySrc c k).view.read (Elt F) (m ((c : Thread nD τ).loc main_arg1))

/-- The accumulated partial sums of device `c` after one, two, three and all four chunks. -/
def acc1 (c : Dev nD) : Vec F S2x1024 .f32 := k0_pay7 (k0_pay3 (dyBlk m c 0)) (k0_pay5 (xBlk m c 0)) (k0_pay6 (xBlk m c 0))
def acc2 (c : Dev nD) : Vec F S2x1024 .f32 :=
  k0_pay12 (k0_pay8 (xBlk m c 1)) (k0_pay9 (dyBlk m c 1)) (k0_pay10 (xBlk m c 1)) (k0_pay11 (xBlk m c 1)) (acc1 m c)
def acc3 (c : Dev nD) : Vec F S2x1024 .f32 := k0_pay16 (k0_pay13 (xBlk m c 2)) (k0_pay14 (dyBlk m c 2)) (k0_pay15 (xBlk m c 2)) (acc2 m c)
def part (c : Dev nD) : Vec F S2x1024 .f32 := k0_pay17 (xBlk m c 3) (dyBlk m c 3) (acc3 m c)

/-- The result of device `c`: its partial sums and those of its three peers. -/
def outAt (c : Dev nD) : FVec F S2x1024 .f32 := addf (addf (part m c) (part m (peer 0 c))) (addf (part m (peer 1 c)) (part m (peer 2 c)))

/-! ## The schedule -/

/-- The share of slot 0 that the copy of direction `d` reads. -/
def shr : Fin 3 → PosShare TreeShare | 0 => fullShare.left | 1 => fullShare.right.left | 2 => fullShare.right.right

/-- Slot `k` of device `c`, whole, at some contents. -/
def slotAny (c : Dev nD) (k : Fin 4) : sProp 𝕄 := iprop(∃ X, owns (c : Thread nD τ) (slotM k) fullShare X)

/-- What the one duty of a cell of kind `k` of device `c` hands over. -/
def pay (c : Dev nD) : Kd → sProp 𝕄
  | none => iprop(emp)
  | some (0, d) => slotAny (peer d c) (land d)
  | some (1, d) => owns (c : Thread nD τ) (slotM 0) (shr d) (part m c)
  | some (2, d) => owns (c : Thread nD τ) (slotM (land d)) fullShare (part m (peer d c))

omit [FloatOps F] in
instance slotAny_storable (c : Dev nD) (k : Fin 4) : BI.Storable (upEmb : UEmb _ 𝕄) (slotAny (F := F) c k) := by unfold slotAny; infer_instance
instance pay_storable (c : Dev nD) (k : Kd) : BI.Storable (upEmb : UEmb _ 𝕄) (pay m c k) := by
  rcases k with _ | ⟨i, d⟩
  · unfold pay; infer_instance
  · fin_cases i <;> (unfold pay; infer_instance)

/-- The duties of a cell of kind `k`. -/
def dutiesK (k : Kd) : Finset (Fin 3) := if k = kBar then Finset.univ else {0}
/-- The units each duty of a cell of kind `k` pays. -/
def amountK : Kd → ℕ | none => 1 | some (0, _) => 1 | some (1, _) => N | some (2, _) => N
theorem amountK_pos (k : Kd) : 0 < amountK k := by
  rcases k with _ | ⟨i, d⟩
  · exact Nat.one_pos
  · fin_cases i
    · exact Nat.one_pos
    · exact N_pos
    · exact N_pos

/-- One round of every cell of the exchange. -/
def Rd : Rounds.Schedule (GSem nD τ sig) (Fin 3) 𝕄 where
  duties g r := match kindOf g.2 with
    | some k => if r = 0 ∧ g.1.2 = .tc then dutiesK k else ∅
    | none => ∅
  unitless _ := False
  amount g _ _ := match kindOf g.2 with | some k => amountK k | none => 1
  payload g _ _ := match kindOf g.2 with | some k => pay m g.1.1 k | none => iprop(emp)
  amount_pos g _ _ _ := by
    cases h : kindOf g.2 with
    | none => exact Nat.one_pos
    | some k => exact amountK_pos k

instance Rd_payload_storable (g : GSem nD τ sig) (r : ℕ) (d : Fin 3) :
    BI.Storable (upEmb : UEmb _ 𝕄) ((Rd m).payload g r d) := by
  unfold Rd
  dsimp only
  cases h : kindOf g.2 with
  | none => dsimp only; infer_instance
  | some k => dsimp only; infer_instance

theorem Rd_duties (k : Kd) (c : Dev nD) : (Rd m).duties (cell k c) 0 = dutiesK k := by
  dsimp only [Rd]; rw [kindOf_ksem]; exact if_pos ⟨rfl, rfl⟩
theorem Rd_duties_later (g : GSem nD τ sig) : ∀ r, 1 ≤ r → (Rd m).duties g r = ∅ := fun r hr => by
  dsimp only [Rd]
  cases h : kindOf g.2 with
  | none => rfl
  | some k => exact if_neg fun h => by omega
theorem Rd_amount (k : Kd) (c : Dev nD) (d : Fin 3) : (Rd m).amount (cell k c) 0 d = amountK k := by
  dsimp only [Rd]; rw [kindOf_ksem]
theorem Rd_payload (k : Kd) (c : Dev nD) (d : Fin 3) : (Rd m).payload (cell k c) 0 d = pay m c k := by
  dsimp only [Rd]; rw [kindOf_ksem]
theorem Rd_expect (k : Kd) (c : Dev nD) : (Rd m).expect (cell k c) 0 = (dutiesK k).card * amountK k := by
  unfold Schedule.expect Schedule.amountOf
  rw [Rd_duties, Finset.sum_congr rfl fun d _ => Rd_amount m k c d, Finset.sum_const, smul_eq_mul]
theorem Rd_rest (k : Kd) (c : Dev nD) (hk : k ≠ kBar) :
    bigSep ((Rd m).duties (cell k c) 0 \ ∅) (fun d => (Rd m).payload (cell k c) 0 d) = pay m c k := by
  rw [Finset.sdiff_empty, Rd_duties, dutiesK, if_neg hk, bigSep_singleton, Rd_payload]

/-! ## What each device owes at launch; the levels -/

/-- The tally of a list of debts, the first of the list outermost. -/
def owesL : List (GSem nD τ sig × ℕ) → CellTallies nD τ sig Unit
  | [] => 0
  | x :: l => owesL l + tallyAt x.1 () x.2

/-- The debts that are left after the signals: the three copies. -/
def debts₁ (c : Dev nD) : List (GSem nD τ sig × ℕ) :=
  [(cell (kRecv 0) (peer 0 c), N), (cell (kRecv 1) (peer 1 c), N), (cell (kRecv 2) (peer 2 c), N)]
/-- What device `c` owes, in the order it pays. -/
def debts (c : Dev nD) : List (GSem nD τ sig × ℕ) :=
  [(cell kBar (peer 0 c), 1), (cell (kCred 0) (peer 0 c), 1), (cell kBar (peer 1 c), 1), (cell (kCred 1) (peer 1 c), 1),
    (cell kBar (peer 2 c), 1), (cell (kCred 2) (peer 2 c), 1), (cell (kRecv 0) (peer 0 c), N), (cell (kRecv 1) (peer 1 c), N), (cell (kRecv 2) (peer 2 c), N)]
def O₀ (c : Dev nD) : CellTallies nD τ sig Unit := owesL (debts c)

def L (g : GSem nD τ sig) : Finset Unit := if g.1.2 = .tc then {()} else ∅
def lvK : Option Kd → ℕ
  | some none => 1
  | some (some (0, _)) => 1
  | some (some (2, _)) => 2
  | _ => 0
/-- Barrier and credit cells at level 1, receive cells at 2, everything else at 0. -/
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (k : Kd) (c : Dev nD) (u : Unit) : lv (cell k c) u = lvK (some k) := by unfold lv; rw [kindOf_ksem]

theorem owesL_pos {l : List (GSem nD τ sig × ℕ)} {g : GSem nD τ sig} {u : Unit} (h : 0 < owesL l g u) : ∃ x ∈ l, g = x.1 := by
  induction l with
  | nil => exact absurd h (Nat.lt_irrefl 0)
  | cons x l ih =>
    rw [owesL, Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := ih h
      exact ⟨y, List.mem_cons_of_mem _ hy, e⟩

/-- A device may wait on a semaphore whose level lies below that of every cell it owes. -/
theorem mayWait_of (c : Dev nD) (sm : SemLoc sig) (l : List (GSem nD τ sig × ℕ))
    (h : ∀ x ∈ l, x.1.1.2 = .tc ∧ lvK (kindOf sm) < lv x.1 ()) :
    (levAts L lv : sProp 𝕄) ⊢ MayWait (c : Thread nD τ) sm () (owesL l) :=
  MayOwe.of_cut (L := L) (lev := lv) (lvK (kindOf sm))
    (fun p hp => by rw [Finset.mem_singleton.mp hp, L_tc]; exact Finset.mem_singleton_self _)
    (fun g u hg => by
      obtain ⟨x, hx, rfl⟩ := owesL_pos hg
      unfold L; rw [if_pos (h x hx).1]; exact Finset.mem_singleton_self _)
    (fun p hp => by rw [Finset.mem_singleton.mp hp]; exact le_rfl)
    (fun g u hg => by
      obtain ⟨x, hx, rfl⟩ := owesL_pos hg
      exact (h x hx).2)

theorem debts_level (c : Dev nD) (s : SemLoc sig) (hs : lvK (kindOf s) = 0) : ∀ x ∈ debts c, x.1.1.2 = .tc ∧ lvK (kindOf s) < lv x.1 () := by
  rw [hs]
  intro x hx
  simp only [debts, List.mem_cons, List.not_mem_nil, or_false] at hx
  rcases hx with rfl | rfl | rfl | rfl | rfl | rfl | rfl | rfl | rfl <;> exact ⟨rfl, by rw [lv_cell]; decide⟩
theorem debts₁_level (c : Dev nD) (s : SemLoc sig) (hs : lvK (kindOf s) ≤ 1) : ∀ x ∈ debts₁ c, x.1.1.2 = .tc ∧ lvK (kindOf s) < lv x.1 () := by
  intro x hx
  simp only [debts₁, List.mem_cons, List.not_mem_nil, or_false] at hx
  rcases hx with rfl | rfl | rfl <;> exact ⟨rfl, by rw [lv_cell]; exact lt_of_le_of_lt hs (by decide)⟩

end Cert.Exchange

end
-- ==== Proof.Steps.lean ====
/-
# The steps of one device

Each operation of the kernel that touches a buffer or a semaphore, as one rule: what the device holds before and after
it. The rules are stated over the names of the protocol (`Schedule`), so that the run of the body applies one of them
per operation.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The persistent facts -/

/-- Every cell of the exchange has its invariant and is at least at its first round, and the levels are recorded. -/
def world : sProp 𝕄 :=
  iprop((bigSep Finset.univ fun x : Dev nD × Kd => iprop(∃ κ : ℕ, cellInv ER (Rd m) κ (cell x.2 x.1)))
    ∗ (bigSep Finset.univ fun x : Dev nD × Kd => reached ER (cell x.2 x.1) 0) ∗ levAts L lv)

instance world_persistent : BI.Persistent (world m) := by unfold world; infer_instance

theorem world_inv (k : Kd) (c : Dev nD) : world m ⊢ iprop(∃ κ : ℕ, cellInv ER (Rd m) κ (cell k c)) := by
  unfold world
  exact sep_elim_left.trans (bigSep_elim (i := (c, k)) (Finset.mem_univ _))
theorem world_reached (k : Kd) (c : Dev nD) : world m ⊢ reached ER (cell k c) 0 := by
  unfold world
  exact sep_elim_right.trans (sep_elim_left.trans (bigSep_elim (i := (c, k)) (Finset.mem_univ _)))
theorem world_lev : world m ⊢ levAts L lv := by
  unfold world
  exact sep_elim_right.trans sep_elim_right

section Rules

variable (c : Dev nD) {α : Type} {Q : α → sProp (MT nD τ sig Unit (Elt F) ℕ UU ℕ)} {k : PUnit → Prog (TpuEff nD τ sig (Elt F) Λ₀ .tc) α}

/-! ## Signals -/

/-- The signal of direction `d` on the peer's barrier cell. -/
theorem wp_sigBar (d : Fin 3) {l : List (GSem nD τ sig × ℕ)} {W : Waits sig Unit} {n : Dev nD} (hn : n = peer d c) {S : Sem sig} (hS : S = barS) {j : ℕ} (hj : j = 1) :
    iprop(world m ∗ owes (c : Thread nD τ) (owesL ((cell kBar (peer d c), 1) :: l)) W ∗ dutyTok ER (cell kBar (peer d c)) 0 d)
      ⊢ iprop((owes (c : Thread nD τ) (owesL l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) S j) k) Q) := by
  subst hn hS hj
  iintro ⟨#HW, HO, Ht⟩ Hk
  ihave HI := (world_inv m kBar (peer d c)) $$ HW
  icases HI with ⟨%κ, #HI⟩
  iapply (Rounds.wp_signal 𝒱₀ ER (Rd m) (c : Thread nD τ) none (dst := (peer d c : Thread nD τ)) (κ := κ) (d := d)
      (by rw [show ((peer d c : Thread nD τ), SemLoc.reg barS) = cell kBar (peer d c) from rfl, Rd_duties, dutiesK, if_pos rfl]; exact Finset.mem_univ _)
      (Rd_amount m kBar (peer d c) d) () (owesL l) rfl) $$ [HO Ht]
  · isplitr; · iexact HI
    isplitl [HO]; · iexact HO
    isplitl [Ht]; · iexact Ht
    isplitr; · rw [show ((peer d c : Thread nD τ), SemLoc.reg barS) = cell kBar (peer d c) from rfl, Rd_payload]; unfold pay; iempintro
    iapply (world_reached m kBar (peer d c)); iexact HW
  iexact Hk

/-- The signal of direction `d` on the peer's credit cell: the device's own landing slot goes with it. -/
theorem wp_sigCred (d : Fin 3) {l : List (GSem nD τ sig × ℕ)} {W : Waits sig Unit} {n : Dev nD} (hn : n = peer d c) {S : Sem sig} (hS : S = credS d) {j : ℕ} (hj : j = 1) :
    iprop(world m ∗ owes (c : Thread nD τ) (owesL ((cell (kCred d) (peer d c), 1) :: l)) W ∗ dutyTok ER (cell (kCred d) (peer d c)) 0 0 ∗ slotAny c (land d))
      ⊢ iprop((owes (c : Thread nD τ) (owesL l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) S j) k) Q) := by
  subst hn hS hj
  iintro ⟨#HW, HO, Ht, Hs⟩ Hk
  ihave HI := (world_inv m (kCred d) (peer d c)) $$ HW
  icases HI with ⟨%κ, #HI⟩
  iapply (Rounds.wp_signal 𝒱₀ ER (Rd m) (c : Thread nD τ) none (dst := (peer d c : Thread nD τ)) (κ := κ) (d := 0)
      (by rw [show ((peer d c : Thread nD τ), SemLoc.reg (credS d)) = cell (kCred d) (peer d c) from rfl, Rd_duties, dutiesK, if_neg (Option.some_ne_none _)]; exact Finset.mem_singleton_self _)
      (Rd_amount m (kCred d) (peer d c) 0) () (owesL l) rfl) $$ [HO Ht Hs]
  · isplitr; · iexact HI
    isplitl [HO]; · iexact HO
    isplitl [Ht]; · iexact Ht
    isplitl [Hs]
    · rw [show ((peer d c : Thread nD τ), SemLoc.reg (credS d)) = cell (kCred d) (peer d c) from rfl, Rd_payload]
      unfold pay; dsimp only; rw [peer_peer]; iexact Hs
    iapply (world_reached m (kCred d) (peer d c)); iexact HW
  iexact Hk

/-! ## Waits -/

/-- The wait of the device for the whole round of one of its cells: the round's payload, and the cell closed. -/
theorem wp_waitCell (kd : Kd) {w : TpuEff nD τ sig (Elt F) Λ₀ .tc PUnit} {j : ℕ}
    (hw : ∀ K : PUnit → sProp 𝕄, wpE (defs₀ (F := F)) 𝒱₀ (c : Thread nD τ) none Set.univ w K = waitSpec (c : Thread nD τ) Set.univ (ksem kd) j K)
    (hj : j = (dutiesK kd).card * amountK kd) (l : List (GSem nD τ sig × ℕ)) {W : Waits sig Unit}
    (hl : ∀ x ∈ l, x.1.1.2 = .tc ∧ lvK (kindOf (ksem kd)) < lv x.1 ()) :
    iprop(world m ∗ cred (tallyAt (cell kd c) () ((dutiesK kd).card * amountK kd)) ∗ owes (c : Thread nD τ) (owesL l) W ∗ atPos ER (cell kd c) 0 ∅ 0)
      ⊢ iprop(((∃ W', owes (c : Thread nD τ) (owesL l) W') -∗ semVal (cell kd c) 0
            -∗ bigSep ((Rd m).duties (cell kd c) 0 \ ∅) (fun d => (Rd m).payload (cell kd c) 0 d)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hj
  iintro ⟨#HW, Hc, HO, Ha⟩ Hk
  ihave HI := (world_inv m kd c) $$ HW
  icases HI with ⟨%κ, #HI⟩
  iapply (Rounds.wp_wait_rest_token 𝒱₀ ER (Rd m) (c : Thread nD τ) none (κ := κ) hw (Set.mem_univ _) () (O := owesL l) (W := W) (R := 0) (m := 0) (T := ∅)
      (by rw [Nat.zero_add]; exact (Rd_expect m kd c).symm)) $$ [Hc HO Ha]
  · isplitr; · iexact HI
    isplitl [Hc]; · iexact Hc
    isplitl [HO]; · iexact HO
    isplitr; · iapply ((world_lev m).trans (mayWait_of c (ksem kd) l hl)); iexact HW
    iexact Ha
  iintro ⟨HO, Ha, -, Hp⟩
  imod (Rounds.cell_close ER (Rd m) (Set.mem_univ κ) (fun h => h) (R := 0 + 1) (Rd_duties_later m (cell kd c))) $$ [Ha] with Hz
  · isplitr; · iexact HI
    iexact Ha
  iapply Hk $$ [HO] [Hz] [Hp]
  · iexists _; iexact HO
  · iexact Hz
  · iexact Hp

/-- The wait of three on the barrier. -/
theorem wp_waitBar {S : Sem sig} (hS : S = barS) {j : ℕ} (hj : j = 3) {W : Waits sig Unit} :
    iprop(world m ∗ cred (tallyAt (cell kBar c) () 3) ∗ owes (c : Thread nD τ) (owesL (debts₁ c)) W ∗ atPos ER (cell kBar c) 0 ∅ 0)
      ⊢ iprop(((∃ W', owes (c : Thread nD τ) (owesL (debts₁ c)) W') -∗ semVal (cell kBar c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait S j) k) Q) := by
  subst hS hj
  iintro H Hk
  iapply (wp_waitCell m c kBar (wpE_semWait_eq 𝒱₀ (c : Thread nD τ) none Set.univ) (show (3 : ℕ) = (dutiesK kBar).card * amountK kBar from rfl) (debts₁ c)
    (debts₁_level c _ (by rw [kindOf_ksem]; decide))) $$ [H]
  · icases H with ⟨HW, Hc, H⟩
    isplitl [HW]; · iexact HW
    isplitl [Hc]; · iexact Hc
    iexact H
  iintro HO Hz -
  iapply Hk $$ HO Hz

/-- The wait on credit cell `d`: the peer's landing slot comes with it. -/
theorem wp_waitCred (d : Fin 3) {S : Sem sig} (hS : S = credS d) {j : ℕ} (hj : j = 1) {l : List (GSem nD τ sig × ℕ)} (hl : l ⊆ debts₁ c) {W : Waits sig Unit} :
    iprop(world m ∗ cred (tallyAt (cell (kCred d) c) () 1) ∗ owes (c : Thread nD τ) (owesL l) W ∗ atPos ER (cell (kCred d) c) 0 ∅ 0)
      ⊢ iprop(((∃ W', owes (c : Thread nD τ) (owesL l) W') -∗ semVal (cell (kCred d) c) 0 -∗ slotAny (peer d c) (land d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait S j) k) Q) := by
  subst hS hj
  iintro H Hk
  iapply (wp_waitCell m c (kCred d) (wpE_semWait_eq 𝒱₀ (c : Thread nD τ) none Set.univ) (show (1 : ℕ) = (dutiesK (kCred d)).card * amountK (kCred d) from rfl) l
    (fun x hx => debts₁_level c _ (by rw [kindOf_ksem]; exact le_rfl) x (hl hx))) $$ [H]
  · icases H with ⟨HW, Hc, H⟩
    isplitl [HW]; · iexact HW
    isplitl [Hc]; · iexact Hc
    iexact H
  iintro HO Hz Hp
  ihave Hp := (Entails.of_eq (Rd_rest m (kCred d) c (Option.some_ne_none _))) $$ Hp
  unfold pay
  iapply Hk $$ HO Hz Hp

/-- Every slot has the credit `N`. -/
theorem slot_credit (i : Fin 4) : (slotM i).view.dmaCredit = N := rfl

/-- The wait on send cell `d`: the share of slot 0 comes back. -/
theorem wp_waitSend (d : Fin 3) (i : Fin 4) {S : DmaSem sig} (hS : S = sendS d) {src dst : Memref sig .tc .vmem S2x1024 .f32} (hd : dst = slotM i)
    {hsrc : src.view.WordExact} {hdst : dst.view.WordExact} {W : Waits sig Unit} :
    iprop(world m ∗ cred (tallyAt (cell (kSend d) c) () N) ∗ owes (c : Thread nD τ) (owesL []) W ∗ atPos ER (cell (kSend d) c) 0 ∅ 0)
      ⊢ iprop(((∃ W', owes (c : Thread nD τ) (owesL []) W') -∗ semVal (cell (kSend d) c) 0 -∗ owns (c : Thread nD τ) (slotM 0) (shr d) (part m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src dst hsrc hdst) k) Q) := by
  subst hS
  iintro ⟨HW, Hc, H⟩ Hk
  iapply (wp_waitCell m c (kSend d) (wpE_waitDma2_eq 𝒱₀ (c : Thread nD τ) none Set.univ) ((congrArg (fun M => M.view.dmaCredit) hd).trans ((slot_credit i).trans (Nat.one_mul N).symm)) []
    (fun x hx => absurd hx List.not_mem_nil)) $$ [HW Hc H]
  · isplitl [HW]; · iexact HW
    isplitl [Hc]
    · rw [show (dutiesK (kSend d)).card * amountK (kSend d) = N from Nat.one_mul N]; iexact Hc
    iexact H
  iintro HO Hz Hp
  ihave Hp := (Entails.of_eq (Rd_rest m (kSend d) c (Option.some_ne_none _))) $$ Hp
  unfold pay
  iapply Hk $$ HO Hz Hp

/-- The wait on receive cell `d`: the landing slot holds the peer's partial sums. -/
theorem wp_waitRecv (d : Fin 3) (i : Fin 4) {S : DmaSem sig} (hS : S = recvS d) {src dst : Memref sig .tc .vmem S2x1024 .f32} (hd : dst = slotM i)
    {hsrc : src.view.WordExact} {hdst : dst.view.WordExact} {W : Waits sig Unit} :
    iprop(world m ∗ cred (tallyAt (cell (kRecv d) c) () N) ∗ owes (c : Thread nD τ) (owesL []) W ∗ atPos ER (cell (kRecv d) c) 0 ∅ 0)
      ⊢ iprop(((∃ W', owes (c : Thread nD τ) (owesL []) W') -∗ semVal (cell (kRecv d) c) 0 -∗ owns (c : Thread nD τ) (slotM (land d)) fullShare (part m (peer d c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src dst hsrc hdst) k) Q) := by
  subst hS
  iintro ⟨HW, Hc, H⟩ Hk
  iapply (wp_waitCell m c (kRecv d) (wpE_waitDma2_eq 𝒱₀ (c : Thread nD τ) none Set.univ) ((congrArg (fun M => M.view.dmaCredit) hd).trans ((slot_credit i).trans (Nat.one_mul N).symm)) []
    (fun x hx => absurd hx List.not_mem_nil)) $$ [HW Hc H]
  · isplitl [HW]; · iexact HW
    isplitl [Hc]
    · rw [show (dutiesK (kRecv d)).card * amountK (kRecv d) = N from Nat.one_mul N]; iexact Hc
    iexact H
  iintro HO Hz Hp
  ihave Hp := (Entails.of_eq (Rd_rest m (kRecv d) c (Option.some_ne_none _))) $$ Hp
  unfold pay
  iapply Hk $$ HO Hz Hp

/-! ## The remote copies -/

/-- The copy of direction `d`: slot 0 into the peer's landing slot. -/
theorem wp_send (d : Fin 3) {n : Dev nD} (hn : n = peer d c) {src dst : Memref sig .tc .vmem S2x1024 .f32} (hs : src = slotM 0) (hd : dst = slotM (land d))
    {sS sR : DmaSem sig} (hS : sS = sendS d) (hR : sR = recvS d) {hsc : dst.view.ref.isScScratch = false}
    {hsrc : src.view.WordExact} {hdst : dst.view.WordExact}
    {hsem : DmaTarget.Typed .vmem (.dma sR) (.remote (Dev.tc n : Thread nD τ) dst (.dma sS) hsc)}
    {l : List (GSem nD τ sig × ℕ)} {W : Waits sig Unit} :
    iprop(world m ∗ owes (c : Thread nD τ) (owesL ((cell (kRecv d) (peer d c), N) :: l)) W
        ∗ owns (c : Thread nD τ) (slotM 0) (shr d) (part m c) ∗ slotAny (peer d c) (land d)
        ∗ dutyTok ER (cell (kSend d) c) 0 0 ∗ dutyTok ER (cell (kRecv d) (peer d c)) 0 0)
      ⊢ iprop((cred (tallyAt (cell (kSend d) c) () N) -∗ owes (c : Thread nD τ) (owesL l) W -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hs hd hS hR
  iintro ⟨#HW, HO, Hs, Hd, HtS, HtR⟩ Hk
  ihave HI := (world_inv m (kSend d) c) $$ HW
  icases HI with ⟨%κ₁, #HI₁⟩
  ihave HI := (world_inv m (kRecv d) (peer d c)) $$ HW
  icases HI with ⟨%κ₂, #HI₂⟩
  unfold slotAny
  icases Hd with ⟨%X, Hd⟩
  unfold owns
  icases Hs with ⟨%fs, %hfs, Hs⟩
  icases Hd with ⟨%fd, -, Hd⟩
  have hd₁ : (0 : Fin 3) ∈ (Rd m).duties ((c : Thread nD τ), SemLoc.dma (sendS d)) 0 := by
    rw [show ((c : Thread nD τ), SemLoc.dma (sendS d)) = cell (kSend d) c from rfl, Rd_duties, dutiesK, if_neg (Option.some_ne_none _)]; exact Finset.mem_singleton_self _
  have hd₂ : (0 : Fin 3) ∈ (Rd m).duties ((peer d c : Thread nD τ), SemLoc.dma (recvS d)) 0 := by
    rw [show ((peer d c : Thread nD τ), SemLoc.dma (recvS d)) = cell (kRecv d) (peer d c) from rfl, Rd_duties, dutiesK, if_neg (Option.some_ne_none _)]; exact Finset.mem_singleton_self _
  have hp₁ : ((slotM 0).view.loc (c : Thread nD τ) ↦[(slotM 0).view.set]{shr d} fs : sProp 𝕄) ⊢ (Rd m).payload ((c : Thread nD τ), SemLoc.dma (sendS d)) 0 0 := by
    rw [show ((c : Thread nD τ), SemLoc.dma (sendS d)) = cell (kSend d) c from rfl, Rd_payload]
    unfold pay kSend
    dsimp only
    rw [← hfs]
    exact owns_intro (c : Thread nD τ) (slotM 0) (shr d) fs
  have hp₂ : ((slotM (land d)).view.loc (peer d c : Thread nD τ) ↦[(slotM (land d)).view.set]{fullShare} ((slotM (land d)).view.write (Elt F) fd ((slotM 0).view.read (Elt F) fs) Finset.univ) : sProp 𝕄)
      ⊢ (Rd m).payload ((peer d c : Thread nD τ), SemLoc.dma (recvS d)) 0 0 := by
    rw [show ((peer d c : Thread nD τ), SemLoc.dma (recvS d)) = cell (kRecv d) (peer d c) from rfl, Rd_payload]
    unfold pay kRecv
    dsimp only
    rw [peer_peer]
    refine (owns_intro (peer d c : Thread nD τ) (slotM (land d)) fullShare _).trans (Entails.of_eq ?_)
    rw [View.read_write_univ, hfs]
  iapply (Rounds.wp_send_pointsTo 𝒱₀ ER (Rd m) (c : Thread nD τ) none (c' := (peer d c : Thread nD τ)) (src := slotM 0) (dst := slotM (land d)) (sS := .dma (sendS d)) (sem := .dma (recvS d)) (κ₁ := κ₁) (κ₂ := κ₂)
    (r₁ := 0) (r₂ := 0) (d₁ := 0) (d₂ := 0) (fd := fd) (fs := fs) (q := shr d) hd₁ hd₂
    () () N rfl (Rd_amount m (kSend d) c 0) (Rd_amount m (kRecv d) (peer d c) 0) (owesL l) rfl (W := W) hp₁ hp₂) $$ [HO Hs Hd HtS HtR]
  · isplitr; · iexact HI₁
    isplitr; · iexact HI₂
    isplitl [Hs]; · iexact Hs
    isplitl [Hd]; · iexact Hd
    isplitl [HO]; · iexact HO
    isplitl [HtS]; · iexact HtS
    isplitr; · iapply (world_reached m (kSend d) c); iexact HW
    isplitl [HtR]; · iexact HtR
    iapply (world_reached m (kRecv d) (peer d c)); iexact HW
  iintro ⟨Hc, HO⟩
  iapply Hk $$ [Hc] HO
  iexact Hc

/-! ## The local copies -/

/-- A local copy in flight on the device's own semaphore, of a chunk of an array held at share `q`: the wait will give
    the chunk `dst` holding what `src` reads, and the array back. -/
def Fetching (c : Dev nD) (src : Memref sig .tc .hbm S128x1024 .f32) (dst : Memref sig .tc .vmem S128x1024 .f32) (S : DmaSem sig) (q : PosShare TreeShare)
    (fs : Buf (Elt F) (src.view.loc (c : Thread nD τ))) : sProp 𝕄 :=
  iprop(Transfers.Flight EC (c : Thread nD τ) (.dma S) () dst.view.dmaCredit
      iprop(owns (c : Thread nD τ) dst fullShare (src.view.read (Elt F) fs) ∗ (src.view.loc (c : Thread nD τ) ↦[src.view.set]{q} fs))
    ∗ (src.view.loc (c : Thread nD τ) ↦[Finset.univ \ src.view.set]{q} fs))

/-- Issuing a local copy. -/
theorem wp_fetch {src : Memref sig .tc .hbm S128x1024 .f32} {dst : Memref sig .tc .vmem S128x1024 .f32} {S : DmaSem sig}
    {hsrc : src.view.WordExact} {hdst : dst.view.WordExact} {hsem : (DmaTarget.here dst : DmaTarget nD τ sig .tc .vmem S128x1024 .f32).Typed .hbm (.dma S)}
    {q : PosShare TreeShare} {fs : Buf (Elt F) (src.view.loc (c : Thread nD τ))} :
    iprop((src.view.loc (c : Thread nD τ) ↦{q} fs) ∗ (∃ X, owns (c : Thread nD τ) dst fullShare X) ∗ semVal ((c : Thread nD τ), .dma S) 0)
      ⊢ iprop((Fetching c src dst S q fs -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma S) hsrc hdst hsem) k) Q) := by
  iintro ⟨Hs, ⟨%X, Hd⟩, Hv⟩ Hk
  ihave Hs := (pointsTo_split_subset (Finset.subset_univ src.view.set)).1 $$ Hs
  icases Hs with ⟨Hs, Hr⟩
  unfold owns
  icases Hd with ⟨%fd, -, Hd⟩
  iapply (Transfers.wp_dmaLocal EC 𝒱₀ (c : Thread nD τ) none (src := src) (dst := dst) (q := q) (fs := fs) (fd := fd) () dst.view.dmaCredit rfl
    (View.dmaCredit_pos _ (by decide)) (Finset.Subset.refl _)) $$ [Hs Hd Hv]
  · isplitl [Hs]; · iexact Hs
    isplitl [Hd]; · iexact Hd
    iexact Hv
  iintro Hf
  iapply Hk
  unfold Fetching
  isplitl [Hf]
  · iapply (Transfers.Flight_mono EC (c : Thread nD τ) (D' := iprop(owns (c : Thread nD τ) dst fullShare (src.view.read (Elt F) fs) ∗ (src.view.loc (c : Thread nD τ) ↦[src.view.set]{q} fs)))
      (sep_mono_left ((owns_intro (c : Thread nD τ) dst fullShare _).trans (Entails.of_eq (by rw [View.read_write_univ]))))) $$ Hf
  · iexact Hr

/-- Awaiting a local copy. -/
theorem wp_fetched {src srcw : Memref sig .tc .hbm S128x1024 .f32} {dst dstw : Memref sig .tc .vmem S128x1024 .f32} {S : DmaSem sig} (hd : dstw.view.dmaCredit = dst.view.dmaCredit)
    {hsrc : srcw.view.WordExact} {hdst : dstw.view.WordExact}
    {q : PosShare TreeShare} {fs : Buf (Elt F) (src.view.loc (c : Thread nD τ))} (hS : lvK (kindOf (.dma S)) = 0) {W : Waits sig Unit} :
    iprop(world m ∗ Fetching c src dst S q fs ∗ owes (c : Thread nD τ) (owesL (debts₁ c)) W)
      ⊢ iprop(((∃ W', owes (c : Thread nD τ) (owesL (debts₁ c)) W') -∗ semVal ((c : Thread nD τ), .dma S) 0 -∗ (src.view.loc (c : Thread nD τ) ↦{q} fs)
            -∗ owns (c : Thread nD τ) dst fullShare (src.view.read (Elt F) fs) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S srcw dstw hsrc hdst) k) Q) := by
  unfold Fetching
  iintro ⟨#HW, ⟨Hf, Hr⟩, HO⟩ Hk
  iapply (Transfers.wp_waitLocalO EC 𝒱₀ (c : Thread nD τ) none () hd) $$ [Hf HO]
  · isplitl [Hf]; · iexact Hf
    isplitl [HO]; · iexact HO
    iapply ((world_lev m).trans (mayWait_of c (.dma S) (debts₁ c) (debts₁_level c _ (by rw [hS]; exact Nat.zero_le _)))); iexact HW
  iintro ⟨⟨Hd, Hs⟩, Hv, HO⟩
  iapply Hk $$ [HO] [Hv] [Hs Hr] [Hd]
  · iexists _; iexact HO
  · iexact Hv
  · iapply (pointsTo_split_subset (Finset.subset_univ src.view.set)).2
    isplitl [Hs] <;> iassumption
  · iexact Hd

/-! ## Loads and stores -/

/-- Loading a slice held at `X` gives `X`. -/
theorem wp_loadSlice {s : Shape} {M : Memref sig .tc .vmem s .f32} {r : Rect s} {hl : M.view.LoadsAt r.toLoadRect}
    {k : (r.shape.Idx → Elt F .f32) → Prog (TpuEff nD τ sig (Elt F) Λ₀ .tc) α} {hr : ∀ a, r.stride a = 1} {q : PosShare TreeShare} {X : r.shape.Idx → Elt F .f32} :
    (owns (c : Thread nD τ) (M.slice r hr) q X : sProp 𝕄)
      ⊢ iprop((owns (c : Thread nD τ) (M.slice r hr) q X -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold owns
  iintro ⟨%f, %hf, H⟩ Hk
  subst hf
  iapply (wp_load_rect 𝒱₀ (c : Thread nD τ) none Set.univ (m := M) (r := r) (Finset.Subset.refl _)) $$ H
  iintro H
  iapply Hk
  iexists f
  isplitr; · ipureintro; rfl
  iexact H

/-- Loading slot `i` of the exchange buffer held at `X`: the vector loaded reads, as a `2 × 1024` array, `X`. -/
theorem wp_loadSlot (i : Fin 4) {r : Rect S4x2x1024} (hr : r = slotR i) {hl : commM.view.LoadsAt r.toLoadRect}
    {k : (r.shape.Idx → Elt F .f32) → Prog (TpuEff nD τ sig (Elt F) Λ₀ .tc) α} {q : PosShare TreeShare} {X : S2x1024.Idx → Elt F .f32} :
    (owns (c : Thread nD τ) (slotM i) q X : sProp 𝕄)
      ⊢ iprop((∀ v : r.shape.Idx → Elt F .f32, ⌜∀ h, shapeCast S2x1024 v h = X⌝ -∗ owns (c : Thread nD τ) (slotM i) q X
              -∗ wp frame (wpE (defs₀ (F := F)) 𝒱₀ (c : Thread nD τ) none) Set.univ (k v) Q)
          -∗ wp frame (wpE (defs₀ (F := F)) 𝒱₀ (c : Thread nD τ) none) Set.univ (.op (.load commM r.toLoadRect hl) k) Q) := by
  subst hr
  unfold owns
  iintro ⟨%f, %hf, H⟩ Hk
  subst hf
  have hset : (slotM i).view.set = (commM.access (slotR i)).set := View.set_reshape _ _
  iapply (wp_load_rect 𝒱₀ (c : Thread nD τ) none Set.univ (m := commM) (r := slotR i) (by rw [hset])) $$ H
  iintro H
  iapply Hk $$ [] [H]
  · ipureintro; intro h; rfl
  iexists f
  isplitr; · ipureintro; rfl
  iexact H

/-- Storing a `2 × 1024` array into slot `i` of the exchange buffer. -/
theorem wp_storeSlot (i : Fin 4) {r : Rect S4x2x1024} (hr : r = slotR i) {w : r.shape.Idx → Elt F .f32} {hx : (commM.access r).Stores Finset.univ}
    {hm : (Finset.univ : Finset r.shape.Idx) = Finset.univ ∨ ∀ a, r.stride a = 1} {X Y : S2x1024.Idx → Elt F .f32} (hc : r.shape.ShapeCasts S2x1024) (hw : shapeCast S2x1024 w hc = Y) :
    (owns (c : Thread nD τ) (slotM i) fullShare X : sProp 𝕄)
      ⊢ iprop((owns (c : Thread nD τ) (slotM i) fullShare Y -∗ wp frame (wpE (defs₀ (F := F)) 𝒱₀ (c : Thread nD τ) none) Set.univ (k ⟨⟩) Q)
          -∗ wp frame (wpE (defs₀ (F := F)) 𝒱₀ (c : Thread nD τ) none) Set.univ (.op (.store commM r w Finset.univ hx hm) k) Q) := by
  subst hr
  unfold owns
  iintro ⟨%f, %hf, H⟩ Hk
  have hset : (slotM i).view.set = (commM.access (slotR i)).set := View.set_reshape _ _
  iapply (wp_store 𝒱₀ (c : Thread nD τ) none Set.univ (m := commM) (r := slotR i) (Mk := Finset.univ) (S := (slotM i).view.set) (by rw [hset]; exact Finset.Subset.refl _)) $$ H
  iintro H
  iapply Hk
  iexists ((commM.access (slotR i)).write (Elt F) f w Finset.univ)
  isplitr
  · ipureintro
    rw [← hw]
    funext y
    exact congrFun (View.read_write_univ (v := commM.access (slotR i)) f w) _
  iexact H

end Rules

end Cert.Exchange

end
-- ==== Proof.Buffers.lean ====
/-
# The buffers of one device, in pieces

The two `512 × 1024` scratch buffers are held chunk by chunk, the exchange buffer slot by slot, and the two argument
arrays in four shares, one for each copy that reads them. Then the local copies of the kernel in these words.
-/
module

public import proofs.«01_k».proof.Proof.Steps
public import Idealize.ShloMosaic.Lib.Ring
public import Idealize.ShloMosaic.Lib.MemrefSat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Chunks and slots -/

theorem chunk_disj (k k' : Fin 4) (h : k ≠ k') : Disjoint (chunkR k).set (chunkR k').set :=
  Rect.disjoint_of_separated _ _ 0 (by revert k k'; decide)
theorem chunk_cover : (Finset.univ : Finset (Fin 4)).biUnion (fun k => (chunkR k).set) = Finset.univ := by
  ext y
  simp only [Finset.mem_biUnion, Finset.mem_univ, true_and, iff_true]
  have h0 : (y 0).val < 512 := (y 0).isLt
  have h1 : (y 1).val < 1024 := (y 1).isLt
  refine ⟨⟨(y 0).val / 128, by omega⟩, Rect.mem_set_unit.mpr fun a => ?_⟩
  fin_cases a
  · show 128 * ((y 0).val / 128) ≤ (y 0).val ∧ (y 0).val < 128 * ((y 0).val / 128) + 128
    omega
  · show 0 ≤ (y 1).val ∧ (y 1).val < 0 + 1024
    omega

theorem slot_disj (k k' : Fin 4) (h : k ≠ k') : Disjoint (slotR k).set (slotR k').set :=
  Rect.disjoint_of_separated _ _ 0 (by revert k k'; decide)
theorem slot_cover : (Finset.univ : Finset (Fin 4)).biUnion (fun k => (slotR k).set) = Finset.univ := by
  ext y
  simp only [Finset.mem_biUnion, Finset.mem_univ, true_and, iff_true]
  have h0 : (y 0).val < 4 := (y 0).isLt
  have h1 : (y 1).val < 2 := (y 1).isLt
  have h2 : (y 2).val < 1024 := (y 2).isLt
  refine ⟨⟨(y 0).val, h0⟩, Rect.mem_set_unit.mpr fun a => ?_⟩
  fin_cases a
  · show (y 0).val ≤ (y 0).val ∧ (y 0).val < (y 0).val + 1
    omega
  · show 0 ≤ (y 1).val ∧ (y 1).val < 0 + 2
    omega
  · show 0 ≤ (y 2).val ∧ (y 2).val < 0 + 1024
    omega

theorem xChunk_set (k : Fin 4) : (xChunk k).view.set = (chunkR k).set := View.set_slice_whole cc0_scratch0 (chunkR k)
theorem dyChunk_set (k : Fin 4) : (dyChunk k).view.set = (chunkR k).set := View.set_slice_whole cc0_scratch1 (chunkR k)
theorem slotM_set (k : Fin 4) : (slotM k).view.set = (slotR k).set := (View.set_reshape _ _).trans (View.set_slice_whole cc0_scratch3 (slotR k))

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ

/-- Chunk `k` of the buffer of `x`, and of `dy`, at some contents. -/
def xAny (c : Dev nD) (k : Fin 4) : sProp 𝕄 := iprop(∃ X, owns (c : Thread nD τ) (xChunk k) fullShare X)
def dyAny (c : Dev nD) (k : Fin 4) : sProp 𝕄 := iprop(∃ X, owns (c : Thread nD τ) (dyChunk k) fullShare X)

theorem x_piece_in (c : Dev nD) (k : Fin 4) (f : Buf (Elt F) ((c : Thread nD τ).loc cc0_scratch0)) :
    (((c : Thread nD τ).loc cc0_scratch0) ↦[(chunkR k).set]{fullShare} f : sProp 𝕄) ⊢ xAny c k := by
  rw [← xChunk_set k]
  unfold xAny
  refine (owns_intro (c : Thread nD τ) (xChunk k) fullShare f).trans ?_
  iintro H
  iexists ((xChunk k).view.read (Elt F) f)
  iexact H
theorem x_piece_out (c : Dev nD) (k : Fin 4) :
    (xAny c k : sProp 𝕄) ⊢ iprop(∃ f : Buf (Elt F) ((c : Thread nD τ).loc cc0_scratch0), ((c : Thread nD τ).loc cc0_scratch0) ↦[(chunkR k).set]{fullShare} f) := by
  rw [← xChunk_set k]
  unfold xAny owns
  iintro ⟨%X, %f, -, H⟩
  iexists f
  iexact H
theorem x_split (c : Dev nD) :
    iprop(∃ f : Buf (Elt F) ((c : Thread nD τ).loc cc0_scratch0), ((c : Thread nD τ).loc cc0_scratch0) ↦{fullShare} f)
      ⊢ (iprop(xAny c 0 ∗ xAny c 1 ∗ xAny c 2 ∗ xAny c 3) : sProp 𝕄) := by
  rw [← bigSep_four (fun k => xAny c k)]
  iintro ⟨%f, H⟩
  ihave H := (Entails.of_eq (Ring.pointsTo_blocks (ℓ := (c : Thread nD τ).loc cc0_scratch0) (fun k : Fin 4 => (chunkR k).set) chunk_disj chunk_cover f)) $$ H
  have h := bigSep_mono (s := (Finset.univ : Finset (Fin 4))) fun k _ => x_piece_in c k f
  istop
  exact h
include m in
theorem x_join (c : Dev nD) :
    (iprop(xAny c 0 ∗ xAny c 1 ∗ xAny c 2 ∗ xAny c 3) : sProp 𝕄)
      ⊢ iprop(∃ f : Buf (Elt F) ((c : Thread nD τ).loc cc0_scratch0), ((c : Thread nD τ).loc cc0_scratch0) ↦{fullShare} f) := by
  rw [← bigSep_four (fun k => xAny c k)]
  exact (bigSep_mono fun k _ => x_piece_out c k).trans
    (Ring.pointsTo_blocks_join_exists (ℓ := (c : Thread nD τ).loc cc0_scratch0) (fun k : Fin 4 => (chunkR k).set) chunk_disj chunk_cover (m _))

theorem dy_piece_in (c : Dev nD) (k : Fin 4) (f : Buf (Elt F) ((c : Thread nD τ).loc cc0_scratch1)) :
    (((c : Thread nD τ).loc cc0_scratch1) ↦[(chunkR k).set]{fullShare} f : sProp 𝕄) ⊢ dyAny c k := by
  rw [← dyChunk_set k]
  unfold dyAny
  refine (owns_intro (c : Thread nD τ) (dyChunk k) fullShare f).trans ?_
  iintro H
  iexists ((dyChunk k).view.read (Elt F) f)
  iexact H
theorem dy_piece_out (c : Dev nD) (k : Fin 4) :
    (dyAny c k : sProp 𝕄) ⊢ iprop(∃ f : Buf (Elt F) ((c : Thread nD τ).loc cc0_scratch1), ((c : Thread nD τ).loc cc0_scratch1) ↦[(chunkR k).set]{fullShare} f) := by
  rw [← dyChunk_set k]
  unfold dyAny owns
  iintro ⟨%X, %f, -, H⟩
  iexists f
  iexact H
theorem dy_split (c : Dev nD) :
    iprop(∃ f : Buf (Elt F) ((c : Thread nD τ).loc cc0_scratch1), ((c : Thread nD τ).loc cc0_scratch1) ↦{fullShare} f)
      ⊢ (iprop(dyAny c 0 ∗ dyAny c 1 ∗ dyAny c 2 ∗ dyAny c 3) : sProp 𝕄) := by
  rw [← bigSep_four (fun k => dyAny c k)]
  iintro ⟨%f, H⟩
  ihave H := (Entails.of_eq (Ring.pointsTo_blocks (ℓ := (c : Thread nD τ).loc cc0_scratch1) (fun k : Fin 4 => (chunkR k).set) chunk_disj chunk_cover f)) $$ H
  have h := bigSep_mono (s := (Finset.univ : Finset (Fin 4))) fun k _ => dy_piece_in c k f
  istop
  exact h
include m in
theorem dy_join (c : Dev nD) :
    (iprop(dyAny c 0 ∗ dyAny c 1 ∗ dyAny c 2 ∗ dyAny c 3) : sProp 𝕄)
      ⊢ iprop(∃ f : Buf (Elt F) ((c : Thread nD τ).loc cc0_scratch1), ((c : Thread nD τ).loc cc0_scratch1) ↦{fullShare} f) := by
  rw [← bigSep_four (fun k => dyAny c k)]
  exact (bigSep_mono fun k _ => dy_piece_out c k).trans
    (Ring.pointsTo_blocks_join_exists (ℓ := (c : Thread nD τ).loc cc0_scratch1) (fun k : Fin 4 => (chunkR k).set) chunk_disj chunk_cover (m _))

theorem comm_piece_in (c : Dev nD) (k : Fin 4) (f : Buf (Elt F) ((c : Thread nD τ).loc cc0_scratch3)) :
    (((c : Thread nD τ).loc cc0_scratch3) ↦[(slotR k).set]{fullShare} f : sProp 𝕄) ⊢ slotAny c k := by
  rw [← slotM_set k]
  unfold slotAny
  refine (owns_intro (c : Thread nD τ) (slotM k) fullShare f).trans ?_
  iintro H
  iexists ((slotM k).view.read (Elt F) f)
  iexact H
theorem comm_piece_out (c : Dev nD) (k : Fin 4) :
    (slotAny c k : sProp 𝕄) ⊢ iprop(∃ f : Buf (Elt F) ((c : Thread nD τ).loc cc0_scratch3), ((c : Thread nD τ).loc cc0_scratch3) ↦[(slotR k).set]{fullShare} f) := by
  rw [← slotM_set k]
  unfold slotAny owns
  iintro ⟨%X, %f, -, H⟩
  iexists f
  iexact H
theorem comm_split (c : Dev nD) :
    iprop(∃ f : Buf (Elt F) ((c : Thread nD τ).loc cc0_scratch3), ((c : Thread nD τ).loc cc0_scratch3) ↦{fullShare} f)
      ⊢ (iprop(slotAny c 0 ∗ slotAny c 1 ∗ slotAny c 2 ∗ slotAny c 3) : sProp 𝕄) := by
  rw [← bigSep_four (fun k => slotAny c k)]
  iintro ⟨%f, H⟩
  ihave H := (Entails.of_eq (Ring.pointsTo_blocks (ℓ := (c : Thread nD τ).loc cc0_scratch3) (fun k : Fin 4 => (slotR k).set) slot_disj slot_cover f)) $$ H
  have h := bigSep_mono (s := (Finset.univ : Finset (Fin 4))) fun k _ => comm_piece_in c k f
  istop
  exact h
include m in
theorem comm_join (c : Dev nD) :
    (iprop(slotAny c 0 ∗ slotAny c 1 ∗ slotAny c 2 ∗ slotAny c 3) : sProp 𝕄)
      ⊢ iprop(∃ f : Buf (Elt F) ((c : Thread nD τ).loc cc0_scratch3), ((c : Thread nD τ).loc cc0_scratch3) ↦{fullShare} f) := by
  rw [← bigSep_four (fun k => slotAny c k)]
  exact (bigSep_mono fun k _ => comm_piece_out c k).trans
    (Ring.pointsTo_blocks_join_exists (ℓ := (c : Thread nD τ).loc cc0_scratch3) (fun k : Fin 4 => (slotR k).set) slot_disj slot_cover (m _))

/-! ## Slot 0 in the three shares of the copies that read it -/

theorem slot0_shares (c : Dev nD) (X : Vec F S2x1024 .f32) :
    (owns (c : Thread nD τ) (slotM 0) fullShare X : sProp 𝕄)
      ⊣⊢ iprop(owns (c : Thread nD τ) (slotM 0) (shr 0) X ∗ owns (c : Thread nD τ) (slotM 0) (shr 1) X ∗ owns (c : Thread nD τ) (slotM 0) (shr 2) X) :=
  (owns_halves (c : Thread nD τ) (slotM 0) fullShare X).trans
    ⟨sep_mono_right (owns_halves (c : Thread nD τ) (slotM 0) fullShare.right X).1, sep_mono_right (owns_halves (c : Thread nD τ) (slotM 0) fullShare.right X).2⟩

/-! ## An argument array in four shares -/

/-- The share of an argument array that the copy of chunk `k` reads. -/
def arrShr : Fin 4 → PosShare TreeShare
  | 0 => fullShare.left | 1 => fullShare.right.left | 2 => fullShare.right.right.left | 3 => fullShare.right.right.right

theorem halves {ℓ : Loc nD τ sig} (q : PosShare TreeShare) (f : Buf (Elt F) ℓ) : (ℓ ↦{q} f : sProp 𝕄) ⊣⊢ iprop((ℓ ↦{q.left} f) ∗ ℓ ↦{q.right} f) :=
  pointsTo_share (PosShare.mem_left_op_right q)

theorem arr_split {ℓ : Loc nD τ sig} (f : Buf (Elt F) ℓ) :
    (ℓ ↦{fullShare} f : sProp 𝕄) ⊢ iprop((ℓ ↦{arrShr 0} f) ∗ (ℓ ↦{arrShr 1} f) ∗ (ℓ ↦{arrShr 2} f) ∗ (ℓ ↦{arrShr 3} f)) :=
  (halves fullShare f).1.trans (sep_mono_right ((halves fullShare.right f).1.trans (sep_mono_right (halves fullShare.right.right f).1)))
theorem arr_join {ℓ : Loc nD τ sig} (f : Buf (Elt F) ℓ) :
    (iprop((ℓ ↦{arrShr 0} f) ∗ (ℓ ↦{arrShr 1} f) ∗ (ℓ ↦{arrShr 2} f) ∗ (ℓ ↦{arrShr 3} f)) : sProp 𝕄) ⊢ (ℓ ↦{fullShare} f) :=
  (sep_mono_right ((sep_mono_right (halves fullShare.right.right f).2).trans (halves fullShare.right f).2)).trans (halves fullShare f).2

/-! ## The local copies of the kernel -/

section Rules

variable (c : Dev nD) {α : Type} {Q : α → sProp (MT nD τ sig Unit (Elt F) ℕ UU ℕ)} {k : PUnit → Prog (TpuEff nD τ sig (Elt F) Λ₀ .tc) α}

/-- Argument `x` of device `c`, and `dy`, at share `q`. -/
abbrev xPts (q : PosShare TreeShare) : sProp 𝕄 := ((c : Thread nD τ).loc main_arg0) ↦{q} m ((c : Thread nD τ).loc main_arg0)
abbrev dyPts (q : PosShare TreeShare) : sProp 𝕄 := ((c : Thread nD τ).loc main_arg1) ↦{q} m ((c : Thread nD τ).loc main_arg1)

/-- The copy of chunk `j` of `x`, and of `dy`, in flight. -/
def xFlight (j : Fin 4) : sProp 𝕄 := Fetching c (xSrc c j) (xChunk j) (xS j) (arrShr j) (m ((c : Thread nD τ).loc main_arg0))
def dyFlight (j : Fin 4) : sProp 𝕄 := Fetching c (dySrc c j) (dyChunk j) (dyS j) (arrShr j) (m ((c : Thread nD τ).loc main_arg1))

theorem xS_level (j : Fin 4) : lvK (kindOf (.dma (xS j))) = 0 := by revert j; decide
theorem dyS_level (j : Fin 4) : lvK (kindOf (.dma (dyS j))) = 0 := by revert j; decide

theorem wp_fetchX (j : Fin 4) {src : Memref sig .tc .hbm S128x1024 .f32} {dst : Memref sig .tc .vmem S128x1024 .f32} {S : DmaSem sig}
    (hs : src = xSrc c j) (hd : dst = xChunk j) (hS : S = xS j)
    {hsrc : src.view.WordExact} {hdst : dst.view.WordExact} {hsem : (DmaTarget.here dst : DmaTarget nD τ sig .tc .vmem S128x1024 .f32).Typed .hbm (.dma S)} :
    iprop(xPts m c (arrShr j) ∗ xAny c j ∗ semVal ((c : Thread nD τ), .dma (xS j)) 0)
      ⊢ iprop((xFlight m c j -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma S) hsrc hdst hsem) k) Q) := by
  subst hs hd hS
  unfold xFlight xAny
  exact wp_fetch c (src := xSrc c j) (dst := xChunk j) (S := xS j) (q := arrShr j) (fs := m ((c : Thread nD τ).loc main_arg0))

theorem wp_fetchDy (j : Fin 4) {src : Memref sig .tc .hbm S128x1024 .f32} {dst : Memref sig .tc .vmem S128x1024 .f32} {S : DmaSem sig}
    (hs : src = dySrc c j) (hd : dst = dyChunk j) (hS : S = dyS j)
    {hsrc : src.view.WordExact} {hdst : dst.view.WordExact} {hsem : (DmaTarget.here dst : DmaTarget nD τ sig .tc .vmem S128x1024 .f32).Typed .hbm (.dma S)} :
    iprop(dyPts m c (arrShr j) ∗ dyAny c j ∗ semVal ((c : Thread nD τ), .dma (dyS j)) 0)
      ⊢ iprop((dyFlight m c j -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma S) hsrc hdst hsem) k) Q) := by
  subst hs hd hS
  unfold dyFlight dyAny
  exact wp_fetch c (src := dySrc c j) (dst := dyChunk j) (S := dyS j) (q := arrShr j) (fs := m ((c : Thread nD τ).loc main_arg1))

theorem wp_fetchedX (j : Fin 4) {srcw : Memref sig .tc .hbm S128x1024 .f32} {dstw : Memref sig .tc .vmem S128x1024 .f32} {S : DmaSem sig}
    (hd : dstw = xChunk j) (hS : S = xS j) {hsrc : srcw.view.WordExact} {hdst : dstw.view.WordExact} {W : Waits sig Unit} :
    iprop(world m ∗ xFlight m c j ∗ owes (c : Thread nD τ) (owesL (debts₁ c)) W)
      ⊢ iprop(((∃ W', owes (c : Thread nD τ) (owesL (debts₁ c)) W') -∗ semVal ((c : Thread nD τ), .dma (xS j)) 0 -∗ xPts m c (arrShr j)
            -∗ owns (c : Thread nD τ) (xChunk j) fullShare (xBlk m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S srcw dstw hsrc hdst) k) Q) := by
  subst hd hS
  unfold xFlight
  exact wp_fetched m c (src := xSrc c j) (dst := xChunk j) (dstw := xChunk j) rfl (xS_level j)

theorem wp_fetchedDy (j : Fin 4) {srcw : Memref sig .tc .hbm S128x1024 .f32} {dstw : Memref sig .tc .vmem S128x1024 .f32} {S : DmaSem sig}
    (hd : dstw = dyChunk j) (hS : S = dyS j) {hsrc : srcw.view.WordExact} {hdst : dstw.view.WordExact} {W : Waits sig Unit} :
    iprop(world m ∗ dyFlight m c j ∗ owes (c : Thread nD τ) (owesL (debts₁ c)) W)
      ⊢ iprop(((∃ W', owes (c : Thread nD τ) (owesL (debts₁ c)) W') -∗ semVal ((c : Thread nD τ), .dma (dyS j)) 0 -∗ dyPts m c (arrShr j)
            -∗ owns (c : Thread nD τ) (dyChunk j) fullShare (dyBlk m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S srcw dstw hsrc hdst) k) Q) := by
  subst hd hS
  unfold dyFlight
  exact wp_fetched m c (src := dySrc c j) (dst := dyChunk j) (dstw := dyChunk j) rfl (dyS_level j)

/-! ## The accumulator and the result -/

abbrev rowsR : Rect S2x1024 := Rect.unit (s := S2x1024) ![0, 0] S2x1024.size inb_S2x1024_S2x1024_0_0
theorem hz2 : (![0, 0] : Fin 2 → ℕ) = fun _ => 0 := funext fun a => by fin_cases a <;> rfl

theorem read_acc (f : (cc0_scratch2 : Ref sig .tc).ty.Contents (Elt F)) : accM.view.readAt (Elt F) rowsR.toLoadRect f = f :=
  Memref.readAt_unit_zero (Elt F) cc0_scratch2 hz2 _ f
theorem write_acc (f w : (cc0_scratch2 : Ref sig .tc).ty.Contents (Elt F)) : (accM.access rowsR : View sig .tc _ _ _).write (Elt F) f w Finset.univ = w :=
  Memref.write_access_unit_zero_univ (Elt F) cc0_scratch2 hz2 _ f w
theorem write_out (f w : (cc0_stg0_0 : Ref sig .tc).ty.Contents (Elt F)) : (outM.access rowsR : View sig .tc _ _ _).write (Elt F) f w Finset.univ = w :=
  Memref.write_access_unit_zero_univ (Elt F) cc0_stg0_0 hz2 _ f w

/-- Loading the accumulator. -/
theorem wp_loadAcc {hl : accM.view.LoadsAt rowsR.toLoadRect} {k : (rowsR.shape.Idx → Elt F .f32) → Prog (TpuEff nD τ sig (Elt F) Λ₀ .tc) α}
    {f : Buf (Elt F) ((c : Thread nD τ).loc cc0_scratch2)} :
    (((c : Thread nD τ).loc cc0_scratch2) ↦{fullShare} f : sProp 𝕄)
      ⊢ iprop(((((c : Thread nD τ).loc cc0_scratch2) ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load accM rowsR.toLoadRect hl) k) Q) := by
  iintro H Hk
  iapply (wp_load 𝒱₀ (c : Thread nD τ) none Set.univ (m := accM) (Finset.subset_univ _)) $$ H
  rw [read_acc]
  iexact Hk

/-- Storing the result. -/
theorem wp_storeOut {w : rowsR.shape.Idx → Elt F .f32} {hx : (outM.access rowsR).Stores Finset.univ}
    {hm : (Finset.univ : Finset rowsR.shape.Idx) = Finset.univ ∨ ∀ a, rowsR.stride a = 1}
    {f : Buf (Elt F) ((c : Thread nD τ).loc cc0_stg0_0)} (Y : Vec F S2x1024 .f32) (hw : w = Y) :
    (((c : Thread nD τ).loc cc0_stg0_0) ↦{fullShare} f : sProp 𝕄)
      ⊢ iprop(((((c : Thread nD τ).loc cc0_stg0_0) ↦{fullShare} Y) -∗ wp frame (wpE (defs₀ (F := F)) 𝒱₀ (c : Thread nD τ) none) Set.univ (k ⟨⟩) Q)
          -∗ wp frame (wpE (defs₀ (F := F)) 𝒱₀ (c : Thread nD τ) none) Set.univ (.op (.store outM rowsR w Finset.univ hx hm) k) Q) := by
  subst hw
  iintro H Hk
  iapply (wp_store 𝒱₀ (c : Thread nD τ) none Set.univ (m := outM) (r := rowsR) (Mk := Finset.univ) (Finset.subset_univ _)) $$ H
  rw [write_out]
  iexact Hk

/-- Storing the accumulator. -/
theorem wp_storeAcc {w : rowsR.shape.Idx → Elt F .f32} {hx : (accM.access rowsR).Stores Finset.univ}
    {hm : (Finset.univ : Finset rowsR.shape.Idx) = Finset.univ ∨ ∀ a, rowsR.stride a = 1}
    {f : Buf (Elt F) ((c : Thread nD τ).loc cc0_scratch2)} (Y : Vec F S2x1024 .f32) (hw : w = Y) :
    (((c : Thread nD τ).loc cc0_scratch2) ↦{fullShare} f : sProp 𝕄)
      ⊢ iprop(((((c : Thread nD τ).loc cc0_scratch2) ↦{fullShare} Y) -∗ wp frame (wpE (defs₀ (F := F)) 𝒱₀ (c : Thread nD τ) none) Set.univ (k ⟨⟩) Q)
          -∗ wp frame (wpE (defs₀ (F := F)) 𝒱₀ (c : Thread nD τ) none) Set.univ (.op (.store accM rowsR w Finset.univ hx hm) k) Q) := by
  subst hw
  iintro H Hk
  iapply (wp_store 𝒱₀ (c : Thread nD τ) none Set.univ (m := accM) (r := rowsR) (Mk := Finset.univ) (Finset.subset_univ _)) $$ H
  rw [write_acc]
  iexact Hk

end Rules

end Cert.Exchange

end
-- ==== Proof.Body.lean ====
/-
# The run of one device

What a device starts with and ends with, and the body of the kernel executed from the one to the other, one rule of
`Steps` and `Buffers` per operation, in the order of the program.
-/
module

public import proofs.«01_k».proof.Proof.Buffers
public import proofs.«01_k».proof.Proof.Gen.KernelIdeal.Points
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- Its positions at its own cells and the tokens of the duties it will pay. -/
def ghost (c : Dev nD) : sProp 𝕄 :=
  iprop(world m ∗ atPos ER (cell kBar c) 0 ∅ 0
    ∗ bigSep Finset.univ fun d : Fin 3 => iprop(
        (atPos ER (cell (kCred d) c) 0 ∅ 0 ∗ atPos ER (cell (kSend d) c) 0 ∅ 0 ∗ atPos ER (cell (kRecv d) c) 0 ∅ 0)
        ∗ dutyTok ER (cell kBar (peer d c)) 0 d ∗ dutyTok ER (cell (kCred d) (peer d c)) 0 0
        ∗ dutyTok ER (cell (kSend d) c) 0 0 ∗ dutyTok ER (cell (kRecv d) (peer d c)) 0 0))

/-- What is owed to it. -/
def creds (c : Dev nD) : sProp 𝕄 :=
  iprop(cred (tallyAt (cell kBar c) () 3)
    ∗ bigSep Finset.univ fun d : Fin 3 => iprop(cred (tallyAt (cell (kCred d) c) () 1) ∗ cred (tallyAt (cell (kRecv d) c) () N)))

/-- The counters of its local copies, at zero. -/
def locSems (c : Dev nD) : sProp 𝕄 :=
  bigSep Finset.univ fun k : Fin 4 => iprop(semVal ((c : Thread nD τ), .dma (xS k)) 0 ∗ semVal ((c : Thread nD τ), .dma (dyS k)) 0)

/-- Its arguments, as they were at launch. -/
def args (c : Dev nD) : sProp 𝕄 :=
  iprop(xPts m c fullShare ∗ dyPts m c fullShare ∗ (((c : Thread nD τ).loc main_arg2) ↦{fullShare} m ((c : Thread nD τ).loc main_arg2)))

/-- Its scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The counters of its cells of the exchange, at zero, the cells closed. -/
def cellSems (c : Dev nD) : sProp 𝕄 :=
  iprop(semVal (cell kBar c) 0
    ∗ bigSep Finset.univ fun d : Fin 3 => iprop(semVal (cell (kCred d) c) 0 ∗ semVal (cell (kSend d) c) 0 ∗ semVal (cell (kRecv d) c) 0))

def start (c : Dev nD) : sProp 𝕄 := iprop(ghost m c ∗ creds c ∗ locSems c ∗ args m c)
/-- Before the one point of the grid; -/
def Φ₀ (c : Dev nD) : sProp 𝕄 := iprop(start m c ∗ scratch c)
/-- and after it. -/
def Φ₁ (c : Dev nD) : sProp 𝕄 := iprop(scratch c ∗ locSems c ∗ cellSems c ∗ args m c)

/-- The proof data of the region: its one window is the result, `outAt` after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The result out of the four slots read. -/
theorem out_eq (c : Dev nD) (u0 u1 u2 u3 : Vec F S1x2x1024 .f32)
    (h0 : ∀ h, shapeCast S2x1024 u0 h = part m c) (h1 : ∀ h, shapeCast S2x1024 u1 h = part m (peer 0 c))
    (h2 : ∀ h, shapeCast S2x1024 u2 h = part m (peer 1 c)) (h3 : ∀ h, shapeCast S2x1024 u3 h = part m (peer 2 c)) :
    k0_pay1 (k0_pay19 u0) u1 u2 u3 = outAt m c := by
  unfold k0_pay1 k0_pay19 outAt
  simp only [h0, h1, h2, h3]

/-! ## The body -/

section Body

abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t0_0.castSucc ∗ (∃ d, stg c ((dats m ρ 0 c).before (0 : Fin 1) t0_0 d)))

def bodyPost (c : Dev nD) : sProp 𝕄 :=
  iprop(Φ₁ m c ∗ (dats m ρ 0 c).owesAt () t0_0.succ ∗ stg c (outAt m c))

set_option maxHeartbeats 4000000 in
set_option maxRecDepth 100000 in
/-- The body, executed from `bodyPre` to `bodyPost`. -/
theorem sound_body (c : Dev nD) :
    bodyPre m ρ c
      ⊢ wp frame (wpE (defs₀ (F := F)) 𝒱₀ c none) Set.univ
          (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8) (fun _ => bodyPost m ρ c) := by
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre Φ₀ start ghost creds locSems args scratch
  rw [bigSep_three, bigSep_three, bigSep_four]
  iintro ⟨⟨⟨⟨#HW, HaB, ⟨⟨HaC0, HaS0, HaR0⟩, HtB0, HtC0, HtS0, HtR0⟩, ⟨⟨HaC1, HaS1, HaR1⟩, HtB1, HtC1, HtS1, HtR1⟩, ⟨⟨HaC2, HaS2, HaR2⟩, HtB2, HtC2, HtS2, HtR2⟩⟩,
      ⟨HcB, ⟨HcC0, HcR0⟩, ⟨HcC1, HcR1⟩, ⟨HcC2, HcR2⟩⟩, ⟨⟨Hx0, Hy0⟩, ⟨Hx1, Hy1⟩, ⟨Hx2, Hy2⟩, ⟨Hx3, Hy3⟩⟩, Hx, Hdy, Hga⟩,
      Hxv, Hdyv, ⟨%facc, Hacc⟩, Hcomm⟩, Ho, ⟨%dout, %gout, -, Hout⟩⟩
  unfold Dat.owesAt Pipeline.owesWithin
  icases Ho with ⟨%W, -, HO⟩
  rw [show (dats m ρ 0 c).owed t0_0.castSucc = owesL (debts c) from rfl]
  unfold debts
  ihave Hx := (arr_split _) $$ Hx
  icases Hx with ⟨HX0, HX1, HX2, HX3⟩
  ihave Hdy := (arr_split _) $$ Hdy
  icases Hdy with ⟨HD0, HD1, HD2, HD3⟩
  ihave Hxv := (x_split c) $$ Hxv
  icases Hxv with ⟨Hxv0, Hxv1, Hxv2, Hxv3⟩
  ihave Hdyv := (dy_split c) $$ Hdyv
  icases Hdyv with ⟨Hdv0, Hdv1, Hdv2, Hdv3⟩
  ihave Hcomm := (comm_split c) $$ Hcomm
  icases Hcomm with ⟨Hsl0, Hsl1, Hsl2, Hsl3⟩
  -- the copies of the chunks into the scratch buffers
  iapply (wp_fetchX m c 0 rfl rfl rfl) $$ [HX0 Hxv0 Hx0]
  · isplitl [HX0]; · iexact HX0
    isplitl [Hxv0] <;> iassumption
  iintro HX0
  iapply (wp_fetchDy m c 0 rfl rfl rfl) $$ [HD0 Hdv0 Hy0]
  · isplitl [HD0]; · iexact HD0
    isplitl [Hdv0] <;> iassumption
  iintro HD0
  iapply (wp_fetchX m c 1 rfl rfl rfl) $$ [HX1 Hxv1 Hx1]
  · isplitl [HX1]; · iexact HX1
    isplitl [Hxv1] <;> iassumption
  iintro HX1
  iapply (wp_fetchDy m c 1 rfl rfl rfl) $$ [HD1 Hdv1 Hy1]
  · isplitl [HD1]; · iexact HD1
    isplitl [Hdv1] <;> iassumption
  iintro HD1
  iapply (wp_fetchX m c 2 rfl rfl rfl) $$ [HX2 Hxv2 Hx2]
  · isplitl [HX2]; · iexact HX2
    isplitl [Hxv2] <;> iassumption
  iintro HX2
  iapply (wp_fetchDy m c 2 rfl rfl rfl) $$ [HD2 Hdv2 Hy2]
  · isplitl [HD2]; · iexact HD2
    isplitl [Hdv2] <;> iassumption
  iintro HD2
  iapply (wp_fetchX m c 3 rfl rfl rfl) $$ [HX3 Hxv3 Hx3]
  · isplitl [HX3]; · iexact HX3
    isplitl [Hxv3] <;> iassumption
  iintro HX3
  iapply (wp_fetchDy m c 3 rfl rfl rfl) $$ [HD3 Hdv3 Hy3]
  · isplitl [HD3]; · iexact HD3
    isplitl [Hdv3] <;> iassumption
  iintro HD3
  -- the signals to the three peers: ready, and the landing slot
  iapply (wp_sigBar m c 0 (dev1_eq c) rfl rfl) $$ [HO HtB0]
  · isplitr; · iexact HW
    isplitl [HO] <;> iassumption
  iintro HO
  iapply (wp_sigCred m c 0 (dev2_eq c) rfl rfl) $$ [HO HtC0 Hsl1]
  · isplitr; · iexact HW
    isplitl [HO]; · iexact HO
    isplitl [HtC0]; · iexact HtC0
    iexact Hsl1
  iintro HO
  iapply (wp_sigBar m c 1 (dev3_eq c) rfl rfl) $$ [HO HtB1]
  · isplitr; · iexact HW
    isplitl [HO] <;> iassumption
  iintro HO
  iapply (wp_sigCred m c 1 (dev4_eq c) rfl rfl) $$ [HO HtC1 Hsl2]
  · isplitr; · iexact HW
    isplitl [HO]; · iexact HO
    isplitl [HtC1]; · iexact HtC1
    iexact Hsl2
  iintro HO
  iapply (wp_sigBar m c 2 (dev5_eq c) rfl rfl) $$ [HO HtB2]
  · isplitr; · iexact HW
    isplitl [HO] <;> iassumption
  iintro HO
  iapply (wp_sigCred m c 2 (dev6_eq c) rfl rfl) $$ [HO HtC2 Hsl3]
  · isplitr; · iexact HW
    isplitl [HO]; · iexact HO
    isplitl [HtC2]; · iexact HtC2
    iexact Hsl3
  iintro HO
  ihave HO := (show (owes (c : Thread nD τ) (owesL [(cell (kRecv 0) (peer 0 c), N), (cell (kRecv 1) (peer 1 c), N), (cell (kRecv 2) (peer 2 c), N)]) W : sProp 𝕄)
    ⊢ iprop(∃ W', owes (c : Thread nD τ) (owesL (debts₁ c)) W') from by iintro H; iexists W; iexact H) $$ HO
  -- chunk 0
  icases HO with ⟨%W0, HO⟩
  iapply (wp_fetchedX m c 0 rfl rfl) $$ [HX0 HO]
  · isplitr; · iexact HW
    isplitl [HX0] <;> iassumption
  iintro HO Hx0 HX0 Hxv0
  icases HO with ⟨%V0, HO⟩
  iapply (wp_fetchedDy m c 0 rfl rfl) $$ [HD0 HO]
  · isplitr; · iexact HW
    isplitl [HD0] <;> iassumption
  iintro HO Hy0 HD0 Hdv0
  iapply (wp_loadSlice c (M := xV) (hr := fun _ => rfl)) $$ Hxv0; iintro Hxv0
  iapply (wp_loadSlice c (M := dyV) (hr := fun _ => rfl)) $$ Hdv0; iintro Hdv0
  iapply (wp_loadAcc c) $$ Hacc; iintro Hacc
  iapply (wp_storeAcc c (acc1 m c) rfl) $$ Hacc; iintro Hacc
  -- chunk 1
  icases HO with ⟨%W1, HO⟩
  iapply (wp_fetchedX m c 1 rfl rfl) $$ [HX1 HO]
  · isplitr; · iexact HW
    isplitl [HX1] <;> iassumption
  iintro HO Hx1 HX1 Hxv1
  icases HO with ⟨%V1, HO⟩
  iapply (wp_fetchedDy m c 1 rfl rfl) $$ [HD1 HO]
  · isplitr; · iexact HW
    isplitl [HD1] <;> iassumption
  iintro HO Hy1 HD1 Hdv1
  iapply (wp_loadSlice c (M := xV) (hr := fun _ => rfl)) $$ Hxv1; iintro Hxv1
  iapply (wp_loadSlice c (M := dyV) (hr := fun _ => rfl)) $$ Hdv1; iintro Hdv1
  iapply (wp_loadAcc c) $$ Hacc; iintro Hacc
  iapply (wp_loadAcc c) $$ Hacc; iintro Hacc
  iapply (wp_storeAcc c (acc2 m c) rfl) $$ Hacc; iintro Hacc
  -- chunk 2
  icases HO with ⟨%W2, HO⟩
  iapply (wp_fetchedX m c 2 rfl rfl) $$ [HX2 HO]
  · isplitr; · iexact HW
    isplitl [HX2] <;> iassumption
  iintro HO Hx2 HX2 Hxv2
  icases HO with ⟨%V2, HO⟩
  iapply (wp_fetchedDy m c 2 rfl rfl) $$ [HD2 HO]
  · isplitr; · iexact HW
    isplitl [HD2] <;> iassumption
  iintro HO Hy2 HD2 Hdv2
  iapply (wp_loadSlice c (M := xV) (hr := fun _ => rfl)) $$ Hxv2; iintro Hxv2
  iapply (wp_loadSlice c (M := dyV) (hr := fun _ => rfl)) $$ Hdv2; iintro Hdv2
  iapply (wp_loadAcc c) $$ Hacc; iintro Hacc
  iapply (wp_loadAcc c) $$ Hacc; iintro Hacc
  iapply (wp_storeAcc c (acc3 m c) rfl) $$ Hacc; iintro Hacc
  -- chunk 3
  icases HO with ⟨%W3, HO⟩
  iapply (wp_fetchedX m c 3 rfl rfl) $$ [HX3 HO]
  · isplitr; · iexact HW
    isplitl [HX3] <;> iassumption
  iintro HO Hx3 HX3 Hxv3
  icases HO with ⟨%V3, HO⟩
  iapply (wp_fetchedDy m c 3 rfl rfl) $$ [HD3 HO]
  · isplitr; · iexact HW
    isplitl [HD3] <;> iassumption
  iintro HO Hy3 HD3 Hdv3
  iapply (wp_loadSlice c (M := xV) (hr := fun _ => rfl)) $$ Hxv3; iintro Hxv3
  iapply (wp_loadSlice c (M := dyV) (hr := fun _ => rfl)) $$ Hdv3; iintro Hdv3
  iapply (wp_loadAcc c) $$ Hacc; iintro Hacc
  iapply (wp_loadAcc c) $$ Hacc; iintro Hacc
  iapply (wp_storeAcc c (part m c) rfl) $$ Hacc; iintro Hacc
  iapply (wp_loadAcc c) $$ Hacc; iintro Hacc
  -- the partial sums into slot 0
  unfold slotAny
  icases Hsl0 with ⟨%X0, Hsl0⟩
  iapply (wp_loadSlot c 0 rfl) $$ Hsl0; iintro %v0 - Hsl0
  iapply (wp_storeSlot c 0 (Y := part m c) rfl shapeCasts_S1x2x1024_S2x1024 (shapeCast_shapeCast (part m c) shapeCasts_S2x1024_S1x2x1024 shapeCasts_S1x2x1024_S2x1024)) $$ Hsl0; iintro Hsl0
  ihave Hsl0 := (slot0_shares c (part m c)).1 $$ Hsl0
  icases Hsl0 with ⟨Hq0, Hq1, Hq2⟩
  -- everyone is ready
  icases HO with ⟨%W4, HO⟩
  iapply (wp_waitBar m c rfl rfl) $$ [HcB HO HaB]
  · isplitr; · iexact HW
    isplitl [HcB]; · iexact HcB
    isplitl [HO] <;> iassumption
  iintro HO HzB
  unfold debts₁
  -- the copy to peer 0
  icases HO with ⟨%Wc0, HO⟩
  iapply (wp_waitCred m c 0 rfl rfl (l := [(cell (kRecv 0) (peer 0 c), N), (cell (kRecv 1) (peer 1 c), N), (cell (kRecv 2) (peer 2 c), N)]) (fun _ h => h)) $$ [HcC0 HO HaC0]
  · isplitr; · iexact HW
    isplitl [HcC0]; · iexact HcC0
    isplitl [HO] <;> iassumption
  iintro HO HzC0 HP0
  icases HO with ⟨%Wd0, HO⟩
  iapply (wp_send m c 0 (dev7_eq c) rfl rfl rfl rfl) $$ [HO Hq0 HP0 HtS0 HtR0]
  · isplitr; · iexact HW
    isplitl [HO]; · iexact HO
    isplitl [Hq0]; · iexact Hq0
    isplitl [HP0]; · iexact HP0
    isplitl [HtS0] <;> iassumption
  iintro HcS0 HO
  ihave HO := (show (owes (c : Thread nD τ) _ Wd0 : sProp 𝕄) ⊢ iprop(∃ W', owes (c : Thread nD τ) (owesL [(cell (kRecv 1) (peer 1 c), N), (cell (kRecv 2) (peer 2 c), N)]) W') from by iintro H; iexists _; iexact H) $$ HO
  -- the copy to peer 1
  icases HO with ⟨%Wc1, HO⟩
  iapply (wp_waitCred m c 1 rfl rfl (l := [(cell (kRecv 1) (peer 1 c), N), (cell (kRecv 2) (peer 2 c), N)]) (fun _ h => List.mem_cons_of_mem _ h)) $$ [HcC1 HO HaC1]
  · isplitr; · iexact HW
    isplitl [HcC1]; · iexact HcC1
    isplitl [HO] <;> iassumption
  iintro HO HzC1 HP1
  icases HO with ⟨%Wd1, HO⟩
  iapply (wp_send m c 1 (dev8_eq c) rfl rfl rfl rfl) $$ [HO Hq1 HP1 HtS1 HtR1]
  · isplitr; · iexact HW
    isplitl [HO]; · iexact HO
    isplitl [Hq1]; · iexact Hq1
    isplitl [HP1]; · iexact HP1
    isplitl [HtS1] <;> iassumption
  iintro HcS1 HO
  ihave HO := (show (owes (c : Thread nD τ) _ Wd1 : sProp 𝕄) ⊢ iprop(∃ W', owes (c : Thread nD τ) (owesL [(cell (kRecv 2) (peer 2 c), N)]) W') from by iintro H; iexists _; iexact H) $$ HO
  -- the copy to peer 2
  icases HO with ⟨%Wc2, HO⟩
  iapply (wp_waitCred m c 2 rfl rfl (l := [(cell (kRecv 2) (peer 2 c), N)]) (fun _ h => List.mem_cons_of_mem _ (List.mem_cons_of_mem _ h))) $$ [HcC2 HO HaC2]
  · isplitr; · iexact HW
    isplitl [HcC2]; · iexact HcC2
    isplitl [HO] <;> iassumption
  iintro HO HzC2 HP2
  icases HO with ⟨%Wd2, HO⟩
  iapply (wp_send m c 2 (dev9_eq c) rfl rfl rfl rfl) $$ [HO Hq2 HP2 HtS2 HtR2]
  · isplitr; · iexact HW
    isplitl [HO]; · iexact HO
    isplitl [Hq2]; · iexact Hq2
    isplitl [HP2]; · iexact HP2
    isplitl [HtS2] <;> iassumption
  iintro HcS2 HO
  ihave HO := (show (owes (c : Thread nD τ) _ Wd2 : sProp 𝕄) ⊢ iprop(∃ W', owes (c : Thread nD τ) (owesL []) W') from by iintro H; iexists _; iexact H) $$ HO
  -- the waits of direction 0
  icases HO with ⟨%We0, HO⟩
  iapply (wp_waitSend m c 0 0 rfl rfl) $$ [HcS0 HO HaS0]
  · isplitr; · iexact HW
    isplitl [HcS0]; · iexact HcS0
    isplitl [HO] <;> iassumption
  iintro HO HzS0 Hq0
  icases HO with ⟨%Wf0, HO⟩
  iapply (wp_waitRecv m c 0 1 rfl rfl) $$ [HcR0 HO HaR0]
  · isplitr; · iexact HW
    isplitl [HcR0]; · iexact HcR0
    isplitl [HO] <;> iassumption
  iintro HO HzR0 Hsl1
  ihave Hsl1 := (show (owns (c : Thread nD τ) (slotM (land 0)) fullShare (part m (peer 0 c)) : sProp 𝕄) ⊢ owns (c : Thread nD τ) (slotM 1) fullShare (part m (peer 0 c)) from Entails.of_eq rfl) $$ Hsl1
  -- the waits of direction 1
  icases HO with ⟨%We1, HO⟩
  iapply (wp_waitSend m c 1 0 rfl rfl) $$ [HcS1 HO HaS1]
  · isplitr; · iexact HW
    isplitl [HcS1]; · iexact HcS1
    isplitl [HO] <;> iassumption
  iintro HO HzS1 Hq1
  icases HO with ⟨%Wf1, HO⟩
  iapply (wp_waitRecv m c 1 2 rfl rfl) $$ [HcR1 HO HaR1]
  · isplitr; · iexact HW
    isplitl [HcR1]; · iexact HcR1
    isplitl [HO] <;> iassumption
  iintro HO HzR1 Hsl2
  ihave Hsl2 := (show (owns (c : Thread nD τ) (slotM (land 1)) fullShare (part m (peer 1 c)) : sProp 𝕄) ⊢ owns (c : Thread nD τ) (slotM 2) fullShare (part m (peer 1 c)) from Entails.of_eq rfl) $$ Hsl2
  -- the waits of direction 2
  icases HO with ⟨%We2, HO⟩
  iapply (wp_waitSend m c 2 0 rfl rfl) $$ [HcS2 HO HaS2]
  · isplitr; · iexact HW
    isplitl [HcS2]; · iexact HcS2
    isplitl [HO] <;> iassumption
  iintro HO HzS2 Hq2
  icases HO with ⟨%Wf2, HO⟩
  iapply (wp_waitRecv m c 2 3 rfl rfl) $$ [HcR2 HO HaR2]
  · isplitr; · iexact HW
    isplitl [HcR2]; · iexact HcR2
    isplitl [HO] <;> iassumption
  iintro HO HzR2 Hsl3
  ihave Hsl3 := (show (owns (c : Thread nD τ) (slotM (land 2)) fullShare (part m (peer 2 c)) : sProp 𝕄) ⊢ owns (c : Thread nD τ) (slotM 3) fullShare (part m (peer 2 c)) from Entails.of_eq rfl) $$ Hsl3
  ihave Hsl0 := (slot0_shares c (part m c)).2 $$ [Hq0 Hq1 Hq2]
  · isplitl [Hq0]; · iexact Hq0
    isplitl [Hq1] <;> iassumption
  -- the four slots and the result
  iapply (wp_loadSlot c 0 rfl) $$ Hsl0; iintro %u0 %hu0 Hsl0
  iapply (wp_loadSlot c 1 rfl) $$ Hsl1; iintro %u1 %hu1 Hsl1
  iapply (wp_loadSlot c 2 rfl) $$ Hsl2; iintro %u2 %hu2 Hsl2
  iapply (wp_loadSlot c 3 rfl) $$ Hsl3; iintro %u3 %hu3 Hsl3
  iapply (wp_load 𝒱₀ (c : Thread nD τ) none Set.univ (m := outM) (Finset.subset_univ _)) $$ Hout; iintro Hout
  iapply (wp_storeOut c (outAt m c) (out_eq m c u0 u1 u2 u3 hu0 hu1 hu2 hu3)) $$ Hout; iintro Hout
  rw [wp_ret]; imodintro
  unfold bodyPost Φ₁ scratch locSems cellSems args Dat.owesAt Pipeline.owesWithin
  rw [show (dats m ρ 0 c).owed t0_0.succ = owesL [] from rfl, bigSep_three, bigSep_four]
  isplitr [HO Hout]
  · isplitl [Hxv0 Hxv1 Hxv2 Hxv3 Hdv0 Hdv1 Hdv2 Hdv3 Hacc Hsl0 Hsl1 Hsl2 Hsl3]
    · isplitl [Hxv0 Hxv1 Hxv2 Hxv3]
      · iapply (x_join m c)
        unfold xAny
        isplitl [Hxv0]; · iexists _; iexact Hxv0
        isplitl [Hxv1]; · iexists _; iexact Hxv1
        isplitl [Hxv2]; · iexists _; iexact Hxv2
        iexists _; iexact Hxv3
      isplitl [Hdv0 Hdv1 Hdv2 Hdv3]
      · iapply (dy_join m c)
        unfold dyAny
        isplitl [Hdv0]; · iexists _; iexact Hdv0
        isplitl [Hdv1]; · iexists _; iexact Hdv1
        isplitl [Hdv2]; · iexists _; iexact Hdv2
        iexists _; iexact Hdv3
      isplitl [Hacc]; · iexists _; iexact Hacc
      iapply (comm_join m c)
      unfold slotAny
      isplitl [Hsl0]; · iexists _; iexact Hsl0
      isplitl [Hsl1]; · iexists _; iexact Hsl1
      isplitl [Hsl2]; · iexists _; iexact Hsl2
      iexists _; iexact Hsl3
    isplitl [Hx0 Hx1 Hx2 Hx3 Hy0 Hy1 Hy2 Hy3]
    · isplitl [Hx0 Hy0]; · isplitl [Hx0] <;> iassumption
      isplitl [Hx1 Hy1]; · isplitl [Hx1] <;> iassumption
      isplitl [Hx2 Hy2]; · isplitl [Hx2] <;> iassumption
      isplitl [Hx3] <;> iassumption
    isplitl [HzB HzC0 HzC1 HzC2 HzS0 HzS1 HzS2 HzR0 HzR1 HzR2]
    · isplitl [HzB]; · iexact HzB
      isplitl [HzC0 HzS0 HzR0]
      · isplitl [HzC0]; · iexact HzC0
        isplitl [HzS0] <;> iassumption
      isplitl [HzC1 HzS1 HzR1]
      · isplitl [HzC1]; · iexact HzC1
        isplitl [HzS1] <;> iassumption
      isplitl [HzC2]; · iexact HzC2
      isplitl [HzS2] <;> iassumption
    isplitl [HX0 HX1 HX2 HX3]
    · iapply (arr_join _)
      isplitl [HX0]; · iexact HX0
      isplitl [HX1]; · iexact HX1
      isplitl [HX2] <;> iassumption
    isplitl [HD0 HD1 HD2 HD3]
    · iapply (arr_join _)
      isplitl [HD0]; · iexact HD0
      isplitl [HD1]; · iexact HD1
      isplitl [HD2] <;> iassumption
    iexact Hga
  isplitl [HO]
  · icases HO with ⟨%W', HO⟩
    iexists W'
    isplitr; · ipureintro; exact fun _ _ => Or.inl trivial
    iexact HO
  iexists _
  isplitr
  · ipureintro
    rfl
  iexact Hout

set_option maxRecDepth 100000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Body

end Cert.Exchange

end
-- ==== Proof.Run.lean ====
/-
# The launch

The counters of all the devices are turned into the exchange's cells at once, the tokens of the duties are dealt to the
devices that pay them, what each device is owed is read off what the others owe, and the eight runs together are the
program's run: it always ends, with the three arguments of every device as they were, every counter at zero and the
result of every device at `outAt`.
-/
module

public import proofs.«01_k».proof.Proof.Body
public import Idealize.ShloMosaic.Lib.Pipeline.Launch
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The counters and the minted tokens -/

/-- The kernel's own counters: the exchange's nine, then the local copies' eight. -/
abbrev osem : Fin 17 → SemLoc sig :=
  ![.reg (credS 0), .reg (credS 1), .reg (credS 2), .dma (sendS 0), .dma (sendS 1), .dma (sendS 2),
    .dma (recvS 0), .dma (recvS 1), .dma (recvS 2), .dma (xS 0), .dma (xS 1), .dma (xS 2), .dma (xS 3),
    .dma (dyS 0), .dma (dyS 1), .dma (dyS 2), .dma (dyS 3)]

set_option maxRecDepth 8000 in
theorem ownSemFacts : Pipeline.OwnSemFacts cfg0.spec osem := by decide

theorem share_eq (c : Dev nD) (w : Fin cfg0.W) : (dats m ρ 0 c).share w = fullShare := by unfold Dat.share; split <;> rfl

abbrev cellAt (x : Dev nD × Kd) : GSem nD τ sig := cell x.2 x.1

theorem cellAt_injective : Function.Injective cellAt := fun x y h => by
  obtain ⟨hk, hc⟩ := cell_inj h
  exact Prod.ext hc hk

def ringCells : Finset (GSem nD τ sig) := Finset.univ.map ⟨cellAt, cellAt_injective⟩

/-- The duty a token stands for, by the kind of its cell and its direction: a kind of cell and a payer. -/
abbrev dutyAt : Fin 4 → Fin 3 → Kd × Fin 3
  | 0, d => (kBar, d)
  | 1, d => (kCred d, 0)
  | 2, d => (kSend d, 0)
  | 3, d => (kRecv d, 0)

theorem dutyAt_inj : ∀ j d j' d', dutyAt j d = dutyAt j' d' → j = j' ∧ d = d' := by decide

abbrev tokAt (x : Dev nD × Fin 4 × Fin 3) : GSem nD τ sig × ℕ × Fin 3 :=
  (cell (dutyAt x.2.1 x.2.2).1 x.1, 0, (dutyAt x.2.1 x.2.2).2)

theorem tokAt_injective : Function.Injective tokAt := by
  rintro ⟨c, j, d⟩ ⟨c', j', d'⟩ h
  obtain ⟨hk, hc⟩ := cell_inj (congrArg (fun x : GSem nD τ sig × ℕ × Fin 3 => x.1) h)
  have hp := congrArg (fun x : GSem nD τ sig × ℕ × Fin 3 => x.2.2) h
  obtain ⟨hj, hd⟩ := dutyAt_inj j d j' d' (Prod.ext hk hp)
  subst hc; subst hj; subst hd; rfl

def ringToks : Finset (GSem nD τ sig × ℕ × Fin 3) := Finset.univ.map ⟨tokAt, tokAt_injective⟩

def u₀ : UU :=
  (initOf (Pipeline.cells cfgs cellOf_inj) (Pipeline.launchToks cfgs cellOf_inj), (initOf ringCells ringToks, 1))

/-- The tokens of the duties at a device's own cells, in the four families. -/
def toks (c : Dev nD) : sProp 𝕄 :=
  bigSep Finset.univ fun j : Fin 4 => bigSep Finset.univ fun d : Fin 3 =>
    dutyTok ER (cell (dutyAt j d).1 c) 0 (dutyAt j d).2

/-- What the minted state deals to a device. -/
def G (c : Dev nD) : sProp 𝕄 :=
  iprop((bigSep Finset.univ fun k : Kd => roundState ER (Rd m) (cell k c) 0)
    ∗ (bigSep Finset.univ fun k : Kd => iprop(atPos ER (cell k c) 0 ∅ 0 ∗ reached ER (cell k c) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (cell k c) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Counters into cells -/

theorem bigSep_kinds (Φ : Kd → sProp 𝕄) : bigSep Finset.univ Φ
    = iprop(Φ kBar ∗ Φ (kCred 0) ∗ Φ (kCred 1) ∗ Φ (kCred 2) ∗ Φ (kSend 0) ∗ Φ (kSend 1) ∗ Φ (kSend 2) ∗ Φ (kRecv 0) ∗ Φ (kRecv 1) ∗ Φ (kRecv 2)) :=
  bigSep_univ_eq_bigSepL allKd (by decide) (by decide) Φ

theorem ownSems0_eq (c : Dev nD) : (Pipeline.ownSems0 (Ix := Unit) (Name := ℕ) (U := UU) (Lvl := ℕ) (Val := Elt F) (τ := τ) osem c : sProp 𝕄)
    = iprop(semVal (cell (kCred 0) c) 0 ∗ semVal (cell (kCred 1) c) 0 ∗ semVal (cell (kCred 2) c) 0
      ∗ semVal (cell (kSend 0) c) 0 ∗ semVal (cell (kSend 1) c) 0 ∗ semVal (cell (kSend 2) c) 0
      ∗ semVal (cell (kRecv 0) c) 0 ∗ semVal (cell (kRecv 1) c) 0 ∗ semVal (cell (kRecv 2) c) 0
      ∗ semVal ((c : Thread nD τ), .dma (xS 0)) 0 ∗ semVal ((c : Thread nD τ), .dma (xS 1)) 0 ∗ semVal ((c : Thread nD τ), .dma (xS 2)) 0 ∗ semVal ((c : Thread nD τ), .dma (xS 3)) 0
      ∗ semVal ((c : Thread nD τ), .dma (dyS 0)) 0 ∗ semVal ((c : Thread nD τ), .dma (dyS 1)) 0 ∗ semVal ((c : Thread nD τ), .dma (dyS 2)) 0 ∗ semVal ((c : Thread nD τ), .dma (dyS 3)) 0) := by
  rw [Pipeline.ownSems0_eq_of_list c osem [0, 1, 2, 3, 4, 5, 6, 7, 8, 9, 10, 11, 12, 13, 14, 15, 16] (by decide) (by decide)]; rfl

/-- The barrier's counter is the one that outlives the kernel. -/
theorem unscopedSems0_eq (c : Dev nD) : (unscopedSems0 c : sProp 𝕄) = semVal (cell kBar c) 0 := by
  unfold unscopedSems0; rw [bigSep_eq_bigSepL_of_eq [SemLoc.reg barS] (by decide) (by decide)]; rfl

theorem sems_start (c : Dev nD) :
    iprop(Pipeline.ownSems0 (Ix := Unit) (Name := ℕ) (U := UU) (Lvl := ℕ) (Val := Elt F) (τ := τ) osem c ∗ unscopedSems0 c)
      ⊢ (iprop((bigSep Finset.univ fun k : Kd => semVal (cell k c) 0) ∗ locSems c) : sProp 𝕄) := by
  unfold locSems
  rw [ownSems0_eq, unscopedSems0_eq, bigSep_kinds, bigSep_four]
  iintro ⟨⟨H1, H2, H3, H4, H5, H6, H7, H8, H9, Hx0, Hx1, Hx2, Hx3, Hy0, Hy1, Hy2, Hy3⟩, HB⟩
  isplitl [HB H1 H2 H3 H4 H5 H6 H7 H8 H9]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hx0 Hy0]
  · isplitl [Hx0] <;> iassumption
  isplitl [Hx1 Hy1]
  · isplitl [Hx1] <;> iassumption
  isplitl [Hx2 Hy2]
  · isplitl [Hx2] <;> iassumption
  isplitl [Hx3] <;> iassumption

theorem sems_end (c : Dev nD) :
    (iprop(locSems c ∗ cellSems c) : sProp 𝕄)
      ⊢ iprop(unscopedSems0 c ∗ Pipeline.ownSems0 (Ix := Unit) (Name := ℕ) (U := UU) (Lvl := ℕ) (Val := Elt F) (τ := τ) osem c) := by
  unfold locSems cellSems
  rw [ownSems0_eq, unscopedSems0_eq, bigSep_three, bigSep_four]
  iintro ⟨⟨⟨Hx0, Hy0⟩, ⟨Hx1, Hy1⟩, ⟨Hx2, Hy2⟩, ⟨Hx3, Hy3⟩⟩, HB, ⟨H1, H4, H7⟩, ⟨H2, H5, H8⟩, ⟨H3, H6, H9⟩⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hx0]; · iexact Hx0
  isplitl [Hx1]; · iexact Hx1
  isplitl [Hx2]; · iexact Hx2
  isplitl [Hx3]; · iexact Hx3
  isplitl [Hy0]; · iexact Hy0
  isplitl [Hy1]; · iexact Hy1
  isplitl [Hy2]; · iexact Hy2
  iexact Hy3

/-- A device's counters and round states, as the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd m) κ (cell k c)))
          ∗ (bigSep Finset.univ fun k : Kd => iprop(atPos ER (cell k c) 0 ∅ 0 ∗ reached ER (cell k c) 0)) ∗ toks c ∗ locSems c) := by
  unfold G
  iintro ⟨Hos, Hus, Hst, Hat, Htok⟩
  ihave Hv := (sems_start (F := F) c) $$ [Hos Hus]
  · isplitl [Hos] <;> iassumption
  icases Hv with ⟨Hv, Hloc⟩
  imod (show iprop((bigSep Finset.univ fun k : Kd => semVal (cell k c) 0) ∗ bigSep Finset.univ fun k : Kd => roundState ER (Rd m) (cell k c) 0)
      ⊢ (|={Set.univ}=> bigSep Finset.univ fun k : Kd => iprop(∃ κ : ℕ, cellInv ER (Rd m) κ (cell k c)) : sProp 𝕄) from by
        rw [← bigSep_sep']
        exact (bigSep_mono fun k _ => (Rounds.body_intro ER (Rd m) (cell k c)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## Dealing the tokens -/

/-- A device and a direction, the device seen from the other end. -/
def across : Dev nD × Fin 3 ≃ Dev nD × Fin 3 where
  toFun x := (peer x.2 x.1, x.2)
  invFun x := (peer x.2 x.1, x.2)
  left_inv x := by simp only [peer_peer]
  right_inv x := by simp only [peer_peer]

/-- One thing per device and direction, handed to the device at the other end. -/
theorem deal (T : Fin 3 → Dev nD → sProp 𝕄) :
    (bigSep Finset.univ fun c : Dev nD => bigSep Finset.univ fun d : Fin 3 => T d c)
      = bigSep Finset.univ fun c : Dev nD => bigSep Finset.univ fun d : Fin 3 => T d (peer d c) := by
  rw [← bigSep_univ_prod (fun x : Dev nD × Fin 3 => T x.2 x.1), bigSep_univ_equiv across, bigSep_univ_prod]; rfl

/-- The tokens of the duties a device pays. -/
def payToks (c : Dev nD) : sProp 𝕄 :=
  iprop((bigSep Finset.univ fun d : Fin 3 => dutyTok ER (cell kBar (peer d c)) 0 d)
    ∗ (bigSep Finset.univ fun d : Fin 3 => dutyTok ER (cell (kCred d) (peer d c)) 0 0)
    ∗ (bigSep Finset.univ fun d : Fin 3 => dutyTok ER (cell (kSend d) c) 0 0)
    ∗ (bigSep Finset.univ fun d : Fin 3 => dutyTok ER (cell (kRecv d) (peer d c)) 0 0))

theorem toks_around : (bigSep Finset.univ fun c : Dev nD => (toks c : sProp 𝕄)) ⊢ bigSep Finset.univ fun c : Dev nD => payToks c := by
  unfold toks payToks
  simp only [bigSep_four, bigSep_sep']
  rw [deal (fun d c => dutyTok ER (cell kBar c) 0 d), deal (fun d c => dutyTok ER (cell (kCred d) c) 0 0),
    deal (fun d c => dutyTok ER (cell (kRecv d) c) 0 0)]

/-- What every device may look at. -/
def records : sProp 𝕄 :=
  iprop((bigSep Finset.univ fun x : Dev nD × Kd => iprop(∃ κ : ℕ, cellInv ER (Rd m) κ (cell x.2 x.1)))
    ∗ bigSep Finset.univ fun x : Dev nD × Kd => reached ER (cell x.2 x.1) 0)

instance records_persistent : BI.Persistent (records m) := by unfold records; infer_instance

/-- What stays with one device. -/
def mine (c : Dev nD) : sProp 𝕄 :=
  iprop((bigSep Finset.univ fun k : Kd => atPos ER (cell k c) 0 ∅ 0) ∗ payToks c ∗ locSems c)

def G' (c : Dev nD) : sProp 𝕄 := iprop(records m ∗ mine c)

theorem regroup :
    (bigSep Finset.univ fun c : Dev nD => iprop((bigSep Finset.univ fun k : Kd => iprop(∃ κ : ℕ, cellInv ER (Rd m) κ (cell k c)))
          ∗ (bigSep Finset.univ fun k : Kd => iprop(atPos ER (cell k c) 0 ∅ 0 ∗ reached ER (cell k c) 0)) ∗ toks c ∗ locSems c) : sProp 𝕄)
      ⊢ bigSep Finset.univ (G' m) := by
  unfold G' mine
  simp only [bigSep_sep']
  rw [← bigSep_univ_prod (fun x : Dev nD × Kd => (iprop(∃ κ : ℕ, cellInv ER (Rd m) κ (cell x.2 x.1)) : sProp 𝕄)),
    ← bigSep_univ_prod (fun x : Dev nD × Kd => (reached ER (cell x.2 x.1) 0 : sProp 𝕄))]
  iintro ⟨HI, ⟨Hat, HR⟩, Htok, Hloc⟩
  ihave Htk := (toks_around (F := F)) $$ Htok
  isplitl [HI HR]
  · iapply (BI.bigSep_of_persistent Finset.univ (records m))
    unfold records
    isplitl [HI] <;> iassumption
  isplitl [Hat]; · iexact Hat
  isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- A device's share of it all, with the levels, is what its run starts from. -/
theorem ghost_intro (c : Dev nD) : iprop(G' m c ∗ levAts L lv) ⊢ (iprop(ghost m c ∗ locSems c) : sProp 𝕄) := by
  unfold G' mine ghost world records payToks
  rw [bigSep_kinds]
  simp only [bigSep_three]
  iintro ⟨⟨⟨#HI, #HR⟩, ⟨HB, HC0, HC1, HC2, HS0, HS1, HS2, HV0, HV1, HV2⟩, ⟨⟨B0, B1, B2⟩, ⟨C0, C1, C2⟩, ⟨S0, S1, S2⟩, V0, V1, V2⟩, Hloc⟩, #Hlev⟩
  isplitr [Hloc]; swap; · iexact Hloc
  isplitr
  · isplitr; · iexact HI
    isplitr; · iexact HR
    iexact Hlev
  isplitl [HB]; · iexact HB
  isplitl [HC0 HS0 HV0 B0 C0 S0 V0]
  · isplitl [HC0 HS0 HV0]
    · isplitl [HC0]; · iexact HC0
      isplitl [HS0] <;> iassumption
    isplitl [B0]; · iexact B0
    isplitl [C0]; · iexact C0
    isplitl [S0] <;> iassumption
  isplitl [HC1 HS1 HV1 B1 C1 S1 V1]
  · isplitl [HC1 HS1 HV1]
    · isplitl [HC1]; · iexact HC1
      isplitl [HS1] <;> iassumption
    isplitl [B1]; · iexact B1
    isplitl [C1]; · iexact C1
    isplitl [S1] <;> iassumption
  isplitl [HC2 HS2 HV2]
  · isplitl [HC2]; · iexact HC2
    isplitl [HS2] <;> iassumption
  isplitl [B2]; · iexact B2
  isplitl [C2]; · iexact C2
  isplitl [S2] <;> iassumption

/-! ## What a device is owed -/

theorem owesL_apply (l : List (GSem nD τ sig × ℕ)) (g : GSem nD τ sig) :
    owesL l g () = (l.map fun x => if g = x.1 then x.2 else 0).sum := by
  induction l with
  | nil => rfl
  | cons x l ih =>
    rw [owesL, Pi.add_apply, Finsupp.add_apply, tallyAt_apply, ih, List.map_cons, List.sum_cons, Nat.add_comm]
    congr 1
    exact if_congr ⟨fun h => h.1, fun h => ⟨h, rfl⟩⟩ rfl rfl

theorem cell_peer_iff (k k' : Kd) (d : Fin 3) (c e : Dev nD) : cell k c = cell k' (peer d e) ↔ k = k' ∧ e = peer d c :=
  ⟨fun h => ⟨(cell_inj h).1, by rw [(cell_inj h).2, peer_peer]⟩, fun ⟨h1, h2⟩ => by rw [h1, h2, peer_peer]⟩

theorem owed_bar (c e : Dev nD) : O₀ e (cell kBar c) ()
    = (if e = peer 0 c then 1 else 0) + ((if e = peer 1 c then 1 else 0) + (if e = peer 2 c then 1 else 0)) := by
  unfold O₀ debts
  rw [owesL_apply]
  simp only [List.map_cons, List.map_nil, List.sum_cons, List.sum_nil, cell_peer_iff]
  simp

theorem owed_cred (d : Fin 3) (c e : Dev nD) : O₀ e (cell (kCred d) c) () = if e = peer d c then 1 else 0 := by
  unfold O₀ debts
  rw [owesL_apply]
  simp only [List.map_cons, List.map_nil, List.sum_cons, List.sum_nil, cell_peer_iff]
  fin_cases d <;> simp

theorem owed_recv (d : Fin 3) (c e : Dev nD) : O₀ e (cell (kRecv d) c) () = if e = peer d c then N else 0 := by
  unfold O₀ debts
  rw [owesL_apply]
  simp only [List.map_cons, List.map_nil, List.sum_cons, List.sum_nil, cell_peer_iff]
  fin_cases d <;> simp

theorem launch_bar (c : Dev nD) :
    tallyOn (cell kBar c) (launchCredit (Pipeline.owing O₀) 0 (cell kBar c)) = (tallyAt (cell kBar c) () 3 : CellTallies nD τ sig Unit) := by
  unfold tallyAt; refine congrArg _ (Finsupp.ext fun u => ?_); cases u
  rw [Pipeline.launchCredit_owing, Finsupp.single_eq_same, Finset.sum_congr rfl fun e _ => owed_bar c e, Finset.sum_add_distrib, Finset.sum_add_distrib]
  simp

theorem launch_cred (d : Fin 3) (c : Dev nD) :
    tallyOn (cell (kCred d) c) (launchCredit (Pipeline.owing O₀) 0 (cell (kCred d) c)) = (tallyAt (cell (kCred d) c) () 1 : CellTallies nD τ sig Unit) := by
  unfold tallyAt; refine congrArg _ (Finsupp.ext fun u => ?_); cases u
  rw [Pipeline.launchCredit_owing, Finsupp.single_eq_same, Finset.sum_congr rfl fun e _ => owed_cred d c e]
  simp

theorem launch_recv (d : Fin 3) (c : Dev nD) :
    tallyOn (cell (kRecv d) c) (launchCredit (Pipeline.owing O₀) 0 (cell (kRecv d) c)) = (tallyAt (cell (kRecv d) c) () N : CellTallies nD τ sig Unit) := by
  unfold tallyAt; refine congrArg _ (Finsupp.ext fun u => ?_); cases u
  rw [Pipeline.launchCredit_owing, Finsupp.single_eq_same, Finset.sum_congr rfl fun e _ => owed_recv d c e,
    Finset.sum_ite_eq' Finset.univ (peer d c) fun _ => N, if_pos (Finset.mem_univ _)]

theorem ksem_injective : Function.Injective ksem := fun k k' h =>
  Option.some.inj ((kindOf_ksem k).symm.trans ((congrArg kindOf h).trans (kindOf_ksem k')))

theorem launch_kinds (c : Dev nD) : (Pipeline.launchCred O₀ c : sProp 𝕄)
    ⊢ bigSep Finset.univ fun k : Kd => cred (tallyOn (cell k c) (launchCredit (Pipeline.owing O₀) 0 (cell k c))) := by
  unfold Pipeline.launchCred
  have h : bigSep (Finset.univ.map ⟨ksem, ksem_injective⟩) (fun sm : SemLoc sig => (cred (tallyOn ((c : Thread nD τ), sm) (launchCredit (Pipeline.owing O₀) 0 ((c : Thread nD τ), sm))) : sProp 𝕄))
      = bigSep Finset.univ fun k : Kd => cred (tallyOn (cell k c) (launchCredit (Pipeline.owing O₀) 0 (cell k c))) := by
    rw [bigSep_map]; rfl
  rw [← h]
  exact bigSep_subset (Finset.subset_univ _)

theorem creds_intro (c : Dev nD) : (Pipeline.launchCred O₀ c : sProp 𝕄) ⊢ creds c := by
  refine (launch_kinds (F := F) c).trans ?_
  unfold creds
  rw [bigSep_kinds, bigSep_three]
  iintro ⟨HB, H1, H2, H3, -, -, -, H4, H5, H6⟩
  isplitl [HB]; · iapply (Entails.of_eq (congrArg cred (launch_bar c))); iexact HB
  isplitl [H1 H4]
  · isplitl [H1]; · iapply (Entails.of_eq (congrArg cred (launch_cred 0 c))); iexact H1
    iapply (Entails.of_eq (congrArg cred (launch_recv 0 c))); iexact H4
  isplitl [H2 H5]
  · isplitl [H2]; · iapply (Entails.of_eq (congrArg cred (launch_cred 1 c))); iexact H2
    iapply (Entails.of_eq (congrArg cred (launch_recv 1 c))); iexact H5
  isplitl [H3]; · iapply (Entails.of_eq (congrArg cred (launch_cred 2 c))); iexact H3
  iapply (Entails.of_eq (congrArg cred (launch_recv 2 c))); iexact H6

/-! ## The ends of a device's run -/

theorem args_eq (c : Dev nD) :
    (Pipeline.unscopedRestP Pipeline.Prefetch.none cfg0.spec c (fun b => m ((c : Thread nD τ).loc b)) : sProp 𝕄) = args m c := by
  rw [Pipeline.unscopedRestP_none]
  exact unscopedRest0_eq c fun b => m ((c : Thread nD τ).loc b)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [args_eq]
  iintro ⟨Harg, Hlev, Hcr, -, HG⟩
  ihave Hc := (creds_intro (F := F) c) $$ Hcr
  ihave Hg := (ghost_intro m c) $$ [HG Hlev]
  · isplitl [HG] <;> iassumption
  icases Hg with ⟨Hg, Hloc⟩
  imodintro
  unfold start
  isplitl
  · isplitl [Hg]; · iexact Hg
    isplitl [Hc]; · iexact Hc
    isplitl [Hloc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest cfg0.spec c = (scratch c : sProp 𝕄) from scopedRest0_eq c]
  unfold Φ₀
  iintro ⟨Hs, -, Hr⟩
  isplitl [Hs] <;> iassumption

theorem phi1_exit (c : Dev nD) :
    (dats m ρ 0 c).Φ (Fin.last cfg0.N)
      ⊢ iprop((unscopedSems0 c ∗ args m c) ∗ Pipeline.ownSems0 osem c ∗ Pipeline.scopedRest cfg0.spec c) := by
  rw [show (dats m ρ 0 c).Φ (Fin.last cfg0.N) = Φ₁ m c from rfl, show Pipeline.scopedRest cfg0.spec c = (scratch c : sProp 𝕄) from scopedRest0_eq c]
  unfold Φ₁
  iintro ⟨Hr, Hloc, Hcell, Harg⟩
  ihave Hs := (sems_end (F := F) c) $$ [Hloc Hcell]
  · isplitl [Hloc] <;> iassumption
  icases Hs with ⟨HB, Hos⟩
  isplitl [HB Harg]
  · isplitl [HB] <;> iassumption
  isplitl [Hos] <;> iassumption

/-- The result's own transfer may be waited for whatever a device still owes. -/
theorem waits (c : Dev nD) : (levAts L lv : sProp 𝕄) ⊢ Pipeline.cellsWaits cfgs (dats m ρ) () 0 c :=
  Pipeline.cellsWaits_intro cfgs (dats m ρ) () 0 c fun w s t => by
    have hs : lvK (kindOf (SemLoc.dma ((cfg0.win w).sem s))) = 0 := by fin_cases w <;> fin_cases s <;> decide
    rcases t with ⟨_ | _, ht⟩
    · exact mayWait_of c _ (debts c) (debts_level c _ hs)
    · exact mayWait_of c _ [] (fun x hx => absurd hx List.not_mem_nil)

/-! ## The run -/

/-- What one device's memory holds at the end, apart from the result. -/
def Kept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))

theorem args_read (c : Dev nD) (s' : Phys nD τ sig (Elt F)) :
    iprop(args m c ∗ SI s') ⊢ (iprop(⌜Kept m c s'.mem⌝ ∗ SI s') : sProp 𝕄) := by
  have h := pointsTo_read_all (Ix := Unit) (Name := ℕ) (U := UU) (Lvl := ℕ) (Finset.univ : Finset (Fin 3))
    (fun i => (c : Thread nD τ).loc ((![main_arg0, main_arg1, main_arg2] : Fin 3 → Ref sig .tc) i))
    (fun i => m ((c : Thread nD τ).loc ((![main_arg0, main_arg1, main_arg2] : Fin 3 → Ref sig .tc) i))) s' fullShare
  rw [bigSep_three] at h
  unfold args
  refine h.trans ?_
  iintro ⟨%hm, HSI⟩
  isplitr
  · ipureintro; exact ⟨hm 0 (Finset.mem_univ _), hm 1 (Finset.mem_univ _), hm 2 (Finset.mem_univ _)⟩
  iexact HSI

/-- The launch element's share of the exchange, out of the pair it is minted in. -/
theorem own_ring : BI.own (embR (nD := nD) (sig := sig) (Ix := Unit) (Val := Elt F) (Name := ℕ) (Lvl := ℕ) (A := UR sig nD τ) (initOf ringCells ringToks, (1 : Counters)))
    ⊢ (BI.own (ER (initOf ringCells ringToks)) : sProp 𝕄) := Entails.of_eq rfl

def finalA (c : Dev nD) (w : Fin cfg0.W) : Buf (Elt F) ((cfg0.win w).arr.view.loc (c : Thread nD τ)) := (dats m ρ 0 c).arrAt w cfg0.N

set_option maxRecDepth 8000 in
/-- On the mesh of eight devices, at any float values and from any memory with its counters at zero: every weakly fair
    execution of the program ends, and then every device's result array is what its run computes, its three arguments are
    as they were and every counter is zero. -/
theorem run_raw : θ_run defs (onTc (τ := τ) (main (F := F))) (s₀ m ρ)
    (fun r => (∀ c : Dev nD, (∀ w : Fin cfg0.W, r.2.mem ((cfg0.win w).arr.view.loc (c : Thread nD τ)) = finalA m ρ c w) ∧ Kept m c r.2)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (own_ring (F := F)) $$ HX
      imod (fund_ring m) $$ HX' with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Kept m c s)
    (hY := fun c s' => by
      iintro ⟨⟨Hu, Ha⟩, -, HSI⟩
      ihave H := (args_read m c s') $$ [Ha HSI]
      · isplitl [Ha] <;> iassumption
      icases H with ⟨%hk, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hk⟩
      iexact HSI)
    (hQ := fun _ h hs => ⟨fun c => ⟨fun w => (h c).1 w, (h c).2.2.2⟩, sem_eq_zero hs fun c => (h c).2.2.1⟩)

/-- The result's one block is the whole array: it holds what the run left in the staging buffer. -/
theorem finalA_out (c : Dev nD) : finalA m ρ c (0 : Fin 1) = outAt m c := by
  have h : (win0_0.blk (0 : Fin 1)).view.read (Elt F) (finalA m ρ c (0 : Fin 1)) = outAt m c := by
    unfold finalA
    rw [show cfg0.N = ((0 : Fin 1) : Fin cfg0.N).val + 1 from rfl, (dats m ρ 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 :=
    funext fun a => by fin_cases a <;> decide
  rw [← h]
  exact (Memref.read_access_unit_zero (Elt F) main_v1 hz (fun a => by fin_cases a <;> decide) _).symm

/-- On the mesh of eight devices, at any float values and from any memory with its counters at zero: every weakly fair
    execution of the program ends, and then every device's result is `outAt`, its three arguments are as they were and
    every counter is zero. -/
theorem run_main : θ_run defs (onTc (τ := τ) (main (F := F))) ⟨m, fun _ => 0, ρ⟩
    (fun r => (∀ c : Dev nD, r.2.mem ((c : Thread nD τ).loc main_v1) = outAt m c ∧ Kept m c r.2) ∧ r.2.sem = fun _ => 0) :=
  (θ_run defs _ _).mono (fun r h => ⟨fun c => ⟨((h.1 c).1 (0 : Fin 1)).trans (finalA_out m ρ c), (h.1 c).2⟩, h.2⟩) (run_raw m ρ)

end Cert.Exchange

end
-- ==== Proof.Frames.lean ====
/-
# The frames

Every claim about a run that ends with its arguments unchanged and its counters at zero, out of the one run proved for any
float values, and out of the reference's.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Exchange

open Idealize.ShloMosaic Idealize.ShloMosaic.TcCoe Idealize.SL.Sem

instance : Cert.Kernel.Facts := Cert.Kernel.Gen.facts
instance : Cert.ReferenceIdeal.Facts := Cert.ReferenceIdeal.Gen.facts

/-- The run, its results forgotten. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD, Kept m c r.2) ∧ r.2.sem = fun _ => 0) :=
  (θ_run Cert.KernelIdeal.defs _ _).mono (fun _ h => ⟨fun c => (h.1 c).2, h.2⟩) (run_main m ρ)

/-- The program as printed and the one read at the extended reals have the same kernel table, -/
theorem bodies_eq {F : FTy → Type} [FloatOps F] : Cert.Kernel.defs₀ (F := F) = Cert.KernelIdeal.defs₀ (F := F) :=
  congrArg Defs.onTc (funext fun l => by
    rcases l with ⟨_ | _, h⟩
    · rfl
    · exact absurd h (Nat.not_lt.2 (Nat.le_add_left _ _)))

/-- and so the same table of bodies. -/
theorem defs_eq {F : FTy → Type} [FloatOps F] : Cert.Kernel.defs (F := F) = Cert.KernelIdeal.defs (F := F) :=
  congrArg (fun d : Defs Cert.KernelIdeal.nD Cert.KernelIdeal.τ Cert.KernelIdeal.sig (Elt F) Cert.KernelIdeal.Λ₀ =>
    Pipeline.defs Cert.KernelIdeal.pcfgs d) bodies_eq

/-- The kernel on words. -/
theorem frame_kernel : Cert.quiescent_Kernel := fun m ρ _ => by
  rw [defs_eq]
  exact run_frame (F := Bits) m ρ

/-- The kernel on extended reals. -/
theorem frame_ideal : Cert.quiescent_KernelIdeal := fun m ρ _ => run_frame (F := Ideal) m ρ

/-- The reference on extended reals: it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Exchange

end
-- ==== Proof.Row.lean ====
module

public import Idealize.ShloMosaic.PureOps.Ideal
public import Idealize.ShloMosaic.PureOps.Ideal.Laws
public import Idealize.ShloMosaic.Lib.IdealHost

@[expose] public section

noncomputable section

namespace Cert.Exchange

open Idealize.ShloMosaic
open scoped BigOperators

/-! # One row of `x`: the two ways to its scale

Both programs normalize a row of 1024 entries by its mean and by one over the square root of its variance plus a small
constant. The kernel takes the variance as the mean of the squares less the square of the mean, the reference as the mean of
the squared distances from the mean. On a row of real entries the two are one number. -/

/-- The row length as the programs spell it. -/
def rowLen : EReal := Ideal.ofBits .f32 0x44800000#32
/-- The constant added to the variance. -/
def tiny : EReal := Ideal.ofBits .f32 0x3727C5AC#32

/-- The row length is 1024. -/
theorem rowLen_eq : rowLen = ((1024 : ℝ) : EReal) := by
  simp [rowLen, Ideal.ofBits, Ideal.ieee, -EReal.coe_mul]; norm_num

/-- The constant added to the variance is a positive real. -/
theorem tiny_real : ∃ e : ℝ, 0 < e ∧ tiny = (e : EReal) := by
  refine ⟨_, ?_, by simp [tiny, Ideal.ofBits, Ideal.ieee, -EReal.coe_mul]; rfl⟩
  norm_num

/-- The mean of a row. -/
def rowMean (x : Fin 1024 → EReal) : EReal := Ideal.div (∑ j, x j) rowLen

/-- The kernel's scale: one over the root of (mean of squares − square of mean + constant). -/
def scaleK (x : Fin 1024 → EReal) : EReal :=
  Ideal.rsqrt (Ideal.div (∑ j, x j * x j) rowLen - rowMean x * rowMean x + tiny)

/-- The reference's scale: one over the root of (mean of squared distances from the mean + constant). -/
def scaleR (x : Fin 1024 → EReal) : EReal :=
  Ideal.div 1 (Ideal.sqrt (Ideal.div (∑ j, (x j - rowMean x) * (x j - rowMean x)) rowLen + tiny))

/-- A finite sum of reals is the same sum in the extended reals. -/
theorem coe_sum_row {ι : Type} (s : Finset ι) (r : ι → ℝ) : ((∑ j ∈ s, r j : ℝ) : EReal) = ∑ j ∈ s, (r j : EReal) := by
  classical
  induction s using Finset.induction_on with
  | empty => simp
  | insert a s ha ih => rw [Finset.sum_insert ha, Finset.sum_insert ha, EReal.coe_add, ih]

/-- The mean of the squares less the square of the mean is the mean of the squared distances from the mean. -/
theorem var_real (r : Fin 1024 → ℝ) :
    (∑ j, r j * r j) * (1 / 1024) - ((∑ j, r j) * (1 / 1024)) * ((∑ j, r j) * (1 / 1024))
      = (∑ j, (r j - (∑ i, r i) * (1 / 1024)) * (r j - (∑ i, r i) * (1 / 1024))) * (1 / 1024) := by
  generalize hm : (∑ i, r i) * (1 / 1024) = μ
  have h1 : ∑ i, r i = 1024 * μ := by rw [← hm]; ring
  have h2 : ∑ j, (r j - μ) * (r j - μ) = ∑ j, r j * r j - 2 * μ * ∑ j, r j + 1024 * (μ * μ) := by
    have : ∀ j, (r j - μ) * (r j - μ) = r j * r j - 2 * μ * r j + μ * μ := fun j => by ring
    simp only [this, Finset.sum_add_distrib, Finset.sum_sub_distrib, ← Finset.mul_sum, Finset.sum_const, Finset.card_univ,
      Fintype.card_fin, nsmul_eq_mul]
    push_cast; ring
  rw [h2, h1]; ring

/-- On a row of real entries the two scales are one. -/
theorem scale_eq (x : Fin 1024 → EReal) (hx : ∀ j, ∃ r : ℝ, x j = (r : EReal)) : scaleK x = scaleR x := by
  choose r hr using hx
  obtain rfl : x = fun j => (r j : EReal) := funext hr
  obtain ⟨e, he, hE⟩ := tiny_real
  have hN : (1024 : ℝ) ≠ 0 := by norm_num
  have hmean : rowMean (fun j => (r j : EReal)) = (((∑ j, r j) * (1 / 1024) : ℝ) : EReal) := by
    rw [rowMean, rowLen_eq, Ideal.div_coe hN, ← coe_sum_row, ← EReal.coe_mul]
  rw [scaleK, scaleR, hmean, hE, rowLen_eq, Ideal.div_coe hN, Ideal.div_coe hN]
  simp only [← EReal.coe_mul, ← EReal.coe_sub, ← coe_sum_row, ← EReal.coe_add]
  rw [var_real]
  have hv : 0 ≤ (∑ j, (r j - (∑ i, r i) * (1 / 1024)) * (r j - (∑ i, r i) * (1 / 1024))) * (1 / 1024) :=
    mul_nonneg (Finset.sum_nonneg fun j _ => mul_self_nonneg _) (by norm_num)
  generalize (∑ j, (r j - (∑ i, r i) * (1 / 1024)) * (r j - (∑ i, r i) * (1 / 1024))) * (1 / 1024) = v at hv
  have hp : 0 < v + e := by linarith
  have hs : Real.sqrt (v + e) ≠ 0 := (Real.sqrt_pos.2 hp).ne'
  rw [Ideal.rsqrt_coe, Ideal.sqrt_coe, if_neg hp.not_gt, if_neg hp.ne', if_neg hp.not_gt, Ideal.div_coe hs, one_mul, one_div]

end Cert.Exchange

end
-- ==== Proof.Chunk.lean ====
/-
# What one chunk contributes

A chunk is 128 rows of `x` and of `dy`. The kernel adds to its `2 × 1024` partial sums, per column, the sum over the chunk's
rows of `dy` times the normalized `x` (row 0) and the sum of `dy` (row 1). The four chunks are computed by the same
operations, cut differently between the loads; each is here one function of the chunk, read at an entry.
-/
module

public import proofs.«01_k».proof.Proof.Schedule
public import proofs.«01_k».proof.Proof.Row
public import Idealize.ShloMosaic.Lib.ValueIdx
public import Idealize.ShloMosaic.Lib.Pipeline.Value

@[expose] public section

noncomputable section

namespace Cert.Exchange

open Idealize.ShloMosaic Idealize.ShloMosaic.ValueIdx Cert.KernelIdeal Cert.KernelIdeal.Gen Cert.KernelIdeal.Facts₀
open scoped BigOperators

/-- Row `i` of a chunk. -/
abbrev rowOf (x : FVec Ideal S128x1024 .f32) (i : Fin 128) : Fin 1024 → EReal := fun j => x (ix2 i j)

/-- The vector one chunk contributes, as the kernel's operations compose. -/
def chunkV (x dy : FVec Ideal S128x1024 .f32) : FVec Ideal S2x1024 .f32 :=
  k0_pay7 (F := Ideal) (k0_pay3 dy) (k0_pay5 x) (k0_pay6 x)

/-- The second chunk's payload adds that vector to the accumulator. -/
theorem pay12_eq (x dy : FVec Ideal S128x1024 .f32) (a : FVec Ideal S2x1024 .f32) :
    k0_pay12 (F := Ideal) (k0_pay8 x) (k0_pay9 dy) (k0_pay10 x) (k0_pay11 x) a = addf a (chunkV x dy) := by
  unfold k0_pay12 chunkV k0_pay7
  simp only [shapeCast_self]
  rfl

/-- The third chunk's likewise. -/
theorem pay16_eq (x dy : FVec Ideal S128x1024 .f32) (a : FVec Ideal S2x1024 .f32) :
    k0_pay16 (F := Ideal) (k0_pay13 x) (k0_pay14 dy) (k0_pay15 x) a = addf a (chunkV x dy) := by
  unfold k0_pay16 chunkV k0_pay7
  simp only [shapeCast_self]
  rfl

/-- The fourth chunk's likewise. -/
theorem pay17_eq (x dy : FVec Ideal S128x1024 .f32) (a : FVec Ideal S2x1024 .f32) :
    k0_pay17 (F := Ideal) x dy a = addf a (chunkV x dy) := by
  unfold k0_pay17 chunkV k0_pay7
  simp only [shapeCast_self]
  rfl

/-! ## The shape operations at an entry -/

/-- A sum along the rows' entries. -/
theorem sum_row_apply (x : FVec Ideal S128x1024 .f32) (h : S128x1024.Reduces [1] S128) (hφ : FKind.Formats .f32)
    (acc : BitVec FTy.f32.bits) (hacc : acc = FKind.add.neutral .f32 hφ) (i : Fin 128) :
    multiReduction .add [1] S128 x acc h hφ hacc (ix1 i) = ∑ j : Fin 1024, x (ix2 i j) := by
  rw [Ideal.multiReduction_add_single]
  exact Finset.sum_congr rfl fun j _ => congrArg x (Shape.idx_ext₂ rfl rfl)

/-- A sum down the columns. -/
theorem sum_col_apply (x : FVec Ideal S128x1024 .f32) (h : S128x1024.Reduces [0] S1024) (hφ : FKind.Formats .f32)
    (acc : BitVec FTy.f32.bits) (hacc : acc = FKind.add.neutral .f32 hφ) (j : Fin 1024) :
    multiReduction .add [0] S1024 x acc h hφ hacc (ix1 j) = ∑ i : Fin 128, x (ix2 i j) := by
  rw [Ideal.multiReduction_add_single]
  exact Finset.sum_congr rfl fun j _ => congrArg x (Shape.idx_ext₂ rfl rfl)

/-- A vector of 128 as a column. -/
theorem col_apply (v : FVec Ideal S128 .f32) (h : S128.ShapeCasts S128x1) (i : Fin 128) :
    shapeCast S128x1 v h (ix2 i 0) = v (ix1 i) :=
  shapeCast_apply v h _ _ (by rw [Shape.rowMajor_val_one, Shape.rowMajor_val_two]; simp)

/-- A vector of 1024 as a row. -/
theorem row_apply (v : FVec Ideal S1024 .f32) (h : S1024.ShapeCasts S1x1024) (j : Fin 1024) :
    shapeCast S1x1024 v h (ix2 0 j) = v (ix1 j) :=
  shapeCast_apply v h _ _ (by rw [Shape.rowMajor_val_one, Shape.rowMajor_val_two]; simp)

/-- A column spread over 1024 lanes. -/
theorem spread_apply {φ : FTy} (v : FVec Ideal S128x1 φ) (h : S128x1.Broadcasts S128x1024) (i : Fin 128) (j : Fin 1024) :
    broadcastTo S128x1024 v h (ix2 i j) = v (ix2 i 0) :=
  broadcastTo_apply v h _ _ fun a => by match a with | ⟨0, _⟩ => rfl | ⟨1, _⟩ => rfl

/-- Two rows stacked, at the first. -/
theorem stack_zero (a b : FVec Ideal S1x1024 .f32) (h : Shape.Concatenates [S1x1024, S1x1024] S2x1024 0) (j : Fin 1024) :
    concatenate S2x1024 0 [⟨S1x1024, a⟩, ⟨S1x1024, b⟩] h (ix2 0 j) = a (ix2 0 j) :=
  concatenate_pair_apply_left (t := S2x1024) (s₁ := S1x1024) (s₂ := S1x1024) 0 a b h _ rfl (ix2 0 j) fun b => by
    match b with | ⟨0, _⟩ => rfl | ⟨1, _⟩ => rfl

/-- Two rows stacked, at the second. -/
theorem stack_one (a b : FVec Ideal S1x1024 .f32) (h : Shape.Concatenates [S1x1024, S1x1024] S2x1024 0) (j : Fin 1024) :
    concatenate S2x1024 0 [⟨S1x1024, a⟩, ⟨S1x1024, b⟩] h (ix2 1 j) = b (ix2 0 j) :=
  concatenate_pair_apply_right (t := S2x1024) (s₁ := S1x1024) (s₂ := S1x1024) 0 a b h _ rfl rfl (ix2 0 j)
    (fun b hb => by match b with | ⟨0, _⟩ => exact absurd rfl hb | ⟨1, _⟩ => rfl) rfl

/-! ## The chunk at an entry -/

/-- The mean column of a chunk. -/
theorem mean_apply (x : FVec Ideal S128x1024 .f32) (i : Fin 128) : k0_pay4 (F := Ideal) x (ix2 i 0) = rowMean (rowOf x i) := by
  unfold k0_pay4
  simp only [divf_apply, col_apply, broadcast_apply]
  erw [sum_row_apply]
  rfl

/-- The distances from the mean. -/
theorem dist_apply (x : FVec Ideal S128x1024 .f32) (i : Fin 128) (j : Fin 1024) :
    k0_pay5 (F := Ideal) x (ix2 i j) = x (ix2 i j) - rowMean (rowOf x i) := by
  unfold k0_pay5
  simp only [subf_apply, spread_apply, truncf_apply, mean_apply]
  rfl

/-- The scale of each row, spread over its lanes. -/
theorem scale_apply (x : FVec Ideal S128x1024 .f32) (i : Fin 128) (j : Fin 1024) :
    k0_pay6 (F := Ideal) x (ix2 i j) = scaleK (rowOf x i) := by
  unfold k0_pay6
  simp only [spread_apply, truncf_apply]
  show Ideal.rsqrt _ = _
  simp only [addf_apply, subf_apply, mulf_apply, divf_apply, col_apply, broadcast_apply, mean_apply]
  erw [sum_row_apply]
  rfl

/-- Row 0 of a chunk's vector: `dy` times the normalized `x`, summed over the chunk's rows. -/
theorem chunk_zero (x dy : FVec Ideal S128x1024 .f32) (j : Fin 1024) :
    chunkV x dy (ix2 0 j) = ∑ i : Fin 128, dy (ix2 i j) * ((x (ix2 i j) - rowMean (rowOf x i)) * scaleK (rowOf x i)) := by
  unfold chunkV k0_pay7
  simp only [shapeCast_self, stack_zero, row_apply]
  erw [sum_col_apply]
  simp only [extf_apply, mulf_apply, dist_apply, scale_apply]
  rfl

/-- Row 1 of a chunk's vector: `dy` summed over the chunk's rows. -/
theorem chunk_one (x dy : FVec Ideal S128x1024 .f32) (j : Fin 1024) :
    chunkV x dy (ix2 1 j) = ∑ i : Fin 128, dy (ix2 i j) := by
  unfold chunkV k0_pay7
  simp only [shapeCast_self, stack_one, row_apply]
  erw [sum_col_apply]
  rfl

end Cert.Exchange

end
-- ==== Proof.Whole.lean ====
/-
# What the kernel computes of the whole arrays

Device `c` holds rows `1024 z … 1024 z + 1023` of the whole `x` and `dy`, `z = c % 2`, and sums over the half of them its
first coordinate `c / 4` names, in four chunks of 128 rows. With its three peers it covers the sixteen chunks of the 2048
rows, each once; so its result is the sum over all rows.
-/
module

public import proofs.«01_k».proof.Proof.Chunk
public import Idealize.ShloMosaic.Lib.Layout

@[expose] public section

noncomputable section

namespace Cert.Exchange

open Idealize.ShloMosaic Idealize.ShloMosaic.TcCoe Idealize.ShloMosaic.ValueIdx Cert.KernelIdeal Cert.KernelIdeal.Gen
open scoped BigOperators

abbrev WholeS : Shape := ⟨2, ![2048, 1024]⟩

/-- Row `i` of chunk `q` of the whole array. -/
def wholeRow (q : Fin 16) (i : Fin 128) : Fin 2048 := ⟨128 * q.val + i.val, by omega⟩

/-- The chunk of the whole array that device `c` takes as its `k`-th. -/
def chunkNo (c : Dev nD) (k : Fin 4) : Fin 16 :=
  ⟨8 * (c.val % 2) + 4 * (c.val / 4) + k.val, by have : c.val < 8 := c.isLt; omega⟩

/-- A row of the whole `x`. -/
abbrev rowW (X : FVec Ideal WholeS .f32) (r : Fin 2048) : Fin 1024 → EReal := fun j => X (ix2 r j)

/-- What row `r` adds to column `j` of the first result row: `dy` times the normalized `x`, with the kernel's scale. -/
def termK (X DY : FVec Ideal WholeS .f32) (j : Fin 1024) (r : Fin 2048) : EReal :=
  DY (ix2 r j) * ((X (ix2 r j) - rowMean (rowW X r)) * scaleK (rowW X r))

variable (m : (ℓ : Loc nD τ sig) → Buf (Elt Ideal) ℓ) (X DY : FVec Ideal WholeS .f32)

/-- Every device's block of `x` is its rows of the whole `x`. -/
def HoldsX : Prop := ∀ c : Dev nD,
  m ((c : Thread nD τ).loc main_arg0) = Layout.blockN ⟨2, ![1024, 1024]⟩ WholeS (Layout.meshBlock [2, 2, 2] ![[2], []] c) X
/-- Every device's block of `dy` is its rows of the whole `dy`. -/
def HoldsDY : Prop := ∀ c : Dev nD,
  m ((c : Thread nD τ).loc main_arg1) = Layout.blockN ⟨2, ![1024, 1024]⟩ WholeS (Layout.meshBlock [2, 2, 2] ![[2], []] c) DY

/-- The block of rows a device holds is the one its last coordinate names. -/
theorem block_no (c : Dev nD) : Layout.meshLin [2, 2, 2] c.val [2] = c.val % 2 := by revert c; decide

/-- The element of the whole array that a device's chunk has at row `i`, column `j`. -/
theorem chunk_idx (c : Dev nD) (k : Fin 4) (i : Fin 128) (j : Fin 1024) (h : Layout.TilesN ⟨2, ![1024, 1024]⟩ WholeS _) :
    h.idx (Layout.meshBlock [2, 2, 2] ![[2], []] c) ((srcR c k).emb (ix2 i j)) = ix2 (wholeRow (chunkNo c k) i) j := by
  have e := k0_off1_eq c k
  refine Shape.idx_ext₂ ?_ ?_
  · rw [Layout.TilesN.idx_val]
    show Layout.meshLin [2, 2, 2] c.val [2] * 1024 + (k0_off1 c (BitVec.ofNat 32 (128 * k.val)) 0 + 1 * i.val) = 128 * (8 * (c.val % 2) + 4 * (c.val / 4) + k.val) + i.val
    rw [block_no, e]
    show c.val % 2 * 1024 + (512 * (c.val / 4) + 128 * k.val + 1 * i.val) = _
    omega
  · rw [Layout.TilesN.idx_val]
    show 0 * 1024 + (k0_off1 c (BitVec.ofNat 32 (128 * k.val)) 1 + 1 * j.val) = j.val
    rw [e]
    show 0 * 1024 + (0 + 1 * j.val) = j.val
    omega

variable {m X DY}

/-- A chunk of `x` at an entry. -/
theorem xBlk_apply (hX : HoldsX m X) (c : Dev nD) (k : Fin 4) (i : Fin 128) (j : Fin 1024) :
    xBlk m c k (ix2 i j) = X (ix2 (wholeRow (chunkNo c k) i) j) := by
  show m ((c : Thread nD τ).loc main_arg0) ((srcR c k).emb (ix2 i j)) = _
  rw [hX c]
  exact congrArg X (chunk_idx c k i j _)

/-- A chunk of `dy` at an entry. -/
theorem dyBlk_apply (hD : HoldsDY m DY) (c : Dev nD) (k : Fin 4) (i : Fin 128) (j : Fin 1024) :
    dyBlk m c k (ix2 i j) = DY (ix2 (wholeRow (chunkNo c k) i) j) := by
  show m ((c : Thread nD τ).loc main_arg1) ((srcR c k).emb (ix2 i j)) = _
  rw [hD c]
  exact congrArg DY (chunk_idx c k i j _)

/-- A device's partial sums are its four chunks' contributions, added. -/
theorem part_eq (c : Dev nD) : part m c
    = addf (addf (addf (chunkV (xBlk m c 0) (dyBlk m c 0)) (chunkV (xBlk m c 1) (dyBlk m c 1))) (chunkV (xBlk m c 2) (dyBlk m c 2)))
        (chunkV (xBlk m c 3) (dyBlk m c 3)) := by
  unfold part acc3 acc2 acc1
  rw [pay17_eq, pay16_eq, pay12_eq]
  rfl

/-- A chunk's sum of a row function of the whole array. -/
def chunkSum (f : Fin 2048 → EReal) (q : Fin 16) : EReal := ∑ i : Fin 128, f (wholeRow q i)

/-- A row is a chunk and a row of it. -/
def rowEquiv : Fin 16 × Fin 128 ≃ Fin 2048 where
  toFun p := wholeRow p.1 p.2
  invFun r := (⟨r.val / 128, by omega⟩, ⟨r.val % 128, by omega⟩)
  left_inv p := Prod.ext (Fin.ext (by show (128 * p.1.val + p.2.val) / 128 = p.1.val; omega))
    (Fin.ext (by show (128 * p.1.val + p.2.val) % 128 = p.2.val; omega))
  right_inv r := Fin.ext (by show 128 * (r.val / 128) + r.val % 128 = r.val; omega)

/-- The sixteen chunks are all the rows. -/
theorem sum_chunks (f : Fin 2048 → EReal) : ∑ q : Fin 16, chunkSum f q = ∑ r : Fin 2048, f r := by
  have e : ∑ p : Fin 16 × Fin 128, f (rowEquiv p) = ∑ r : Fin 2048, f r := Equiv.sum_comp rowEquiv f
  rw [← e, Fintype.sum_prod_type]
  rfl

/-- The four chunks of a device. -/
def devSum (f : Fin 2048 → EReal) (c : Dev nD) : EReal :=
  chunkSum f (chunkNo c 0) + chunkSum f (chunkNo c 1) + chunkSum f (chunkNo c 2) + chunkSum f (chunkNo c 3)

/-- A device and its three peers together sum over all the rows. -/
theorem four_devices (f : Fin 2048 → EReal) (c : Dev nD) :
    (devSum f c + devSum f (peer 0 c)) + (devSum f (peer 1 c) + devSum f (peer 2 c)) = ∑ r : Fin 2048, f r := by
  rw [← sum_chunks]
  unfold devSum
  generalize chunkSum f = g
  simp only [Fin.sum_univ_succ, Finset.univ_eq_empty, Finset.sum_empty]
  fin_cases c <;> simp [peer, chunkNo, Fin.succ] <;> abel

/-- A device's chunk, row 0. -/
theorem blk_zero (hX : HoldsX m X) (hD : HoldsDY m DY) (c : Dev nD) (k : Fin 4) (j : Fin 1024) :
    chunkV (xBlk m c k) (dyBlk m c k) (ix2 0 j) = chunkSum (termK X DY j) (chunkNo c k) := by
  rw [chunk_zero]
  refine Finset.sum_congr rfl fun i _ => ?_
  have hrow : rowOf (xBlk m c k) i = rowW X (wholeRow (chunkNo c k) i) := funext fun l => xBlk_apply hX c k i l
  rw [hrow, xBlk_apply hX, dyBlk_apply hD, termK]

/-- A device's chunk, row 1. -/
theorem blk_one (hD : HoldsDY m DY) (c : Dev nD) (k : Fin 4) (j : Fin 1024) :
    chunkV (xBlk m c k) (dyBlk m c k) (ix2 1 j) = chunkSum (fun r => DY (ix2 r j)) (chunkNo c k) := by
  rw [chunk_one]
  refine Finset.sum_congr rfl fun i _ => ?_
  rw [dyBlk_apply hD]

/-- A device's partial sums, row 0. -/
theorem part_zero (hX : HoldsX m X) (hD : HoldsDY m DY) (c : Dev nD) (j : Fin 1024) :
    part m c (ix2 0 j) = devSum (termK X DY j) c := by
  rw [part_eq, addf_apply, addf_apply, addf_apply, blk_zero hX hD, blk_zero hX hD, blk_zero hX hD, blk_zero hX hD, devSum]

/-- A device's partial sums, row 1. -/
theorem part_one (hD : HoldsDY m DY) (c : Dev nD) (j : Fin 1024) :
    part m c (ix2 1 j) = devSum (fun r => DY (ix2 r j)) c := by
  rw [part_eq, addf_apply, addf_apply, addf_apply, blk_one hD, blk_one hD, blk_one hD, blk_one hD, devSum]

/-- The first row of every device's result: `dy` times the normalized `x`, summed over all rows. -/
theorem out_zero (hX : HoldsX m X) (hD : HoldsDY m DY) (c : Dev nD) (j : Fin 1024) :
    outAt m c (ix2 0 j) = ∑ r : Fin 2048, termK X DY j r := by
  rw [outAt]
  simp only [addf_apply, part_zero hX hD]
  exact four_devices _ c

/-- The second row: `dy` summed over all rows. -/
theorem out_one (hD : HoldsDY m DY) (c : Dev nD) (j : Fin 1024) :
    outAt m c (ix2 1 j) = ∑ r : Fin 2048, DY (ix2 r j) := by
  rw [outAt]
  simp only [addf_apply, part_one hD]
  exact four_devices _ c

end Cert.Exchange

end
-- ==== Proof.Reference.lean ====
/-
# What the reference computes, entry by entry

The reference's mean and variance columns, its scale, and its two result rows, each read at an entry of the whole arrays.
-/
module

public import proofs.«01_k».proof.Proof.Row
public import proofs.«01_k».proof.Proof.Gen.ReferenceIdeal
public import proofs.«01_k».proof.Proof.Gen.ReferenceIdeal.Run
public import Idealize.ShloMosaic.Lib.ValueIdx
public import Idealize.ShloMosaic.Lib.IdealHost
public import Idealize.ShloMosaic.Lib.Pipeline.Value

@[expose] public section

noncomputable section

namespace Cert.Exchange.Ref

open Idealize.ShloMosaic Idealize.ShloMosaic.ValueIdx Cert.ReferenceIdeal Cert.ReferenceIdeal.Gen
open scoped BigOperators

variable (X DY : FVec Ideal S2048x1024 .f32)

/-! ## The shape operations at an entry -/

/-- A rank-0 constant spread over a column. -/
theorem scalar_apply {α : Type} (v : S_.Idx → α) (h : S_.BroadcastsInDim S2048x1 ![]) (i : S2048x1.Idx) :
    broadcastInDim S2048x1 ![] h v i = v ix0 := broadcastInDim_scalar_apply h v i

/-- A vector of 2048 as a column. -/
theorem column_apply (v : FVec Ideal S2048 .f32) (h : S2048.BroadcastsInDim S2048x1 ![0]) (r : Fin 2048) :
    broadcastInDim S2048x1 ![0] h v (ix2 r 0) = v (ix1 r) :=
  broadcastInDim_apply _ h v _ _ fun a => by match a with | ⟨0, _⟩ => rfl

/-- A column spread over the lanes. -/
theorem lanes_apply (v : FVec Ideal S2048x1 .f32) (h : S2048x1.BroadcastsInDim S2048x1024 ![0, 1]) (r : Fin 2048) (j : Fin 1024) :
    broadcastInDim S2048x1024 ![0, 1] h v (ix2 r j) = v (ix2 r 0) :=
  broadcastInDim_apply _ h v _ _ fun a => by match a with | ⟨0, _⟩ => rfl | ⟨1, _⟩ => rfl

/-- A vector of 1024 as a row. -/
theorem line_apply (v : FVec Ideal S1024 .f32) (h : S1024.BroadcastsInDim S1x1024 ![1]) (j : Fin 1024) :
    broadcastInDim S1x1024 ![1] h v (ix2 0 j) = v (ix1 j) :=
  broadcastInDim_apply _ h v _ _ fun a => by match a with | ⟨0, _⟩ => rfl

/-- A sum along the rows' entries, from zero. -/
theorem along_apply (x : FVec Ideal S2048x1024 .f32) (h : S2048x1024.ReducesTo [1] S2048) (hu : 0 < S_.numel) (r : Fin 2048) :
    Host.reduceAdd x (constant (F := Ideal) S_ .f32 0x00000000#32) h hu (ix1 r) = ∑ j : Fin 1024, x (ix2 r j) := by
  rw [hostReduceAdd_apply, Ideal.hostReduceAdd_single h (by decide)]
  rw [constant_apply, Ideal.ofBits_zero_f32, zero_add]
  exact Finset.sum_congr rfl fun j _ => congrArg x (Shape.idx_ext₂ rfl rfl)

/-- A sum down the columns, from zero. -/
theorem down_apply (x : FVec Ideal S2048x1024 .f32) (h : S2048x1024.ReducesTo [0] S1024) (hu : 0 < S_.numel) (j : Fin 1024) :
    Host.reduceAdd x (constant (F := Ideal) S_ .f32 0x00000000#32) h hu (ix1 j) = ∑ r : Fin 2048, x (ix2 r j) := by
  rw [hostReduceAdd_apply, Ideal.hostReduceAdd_single h (by decide)]
  rw [constant_apply, Ideal.ofBits_zero_f32, zero_add]
  exact Finset.sum_congr rfl fun j _ => congrArg x (Shape.idx_ext₂ rfl rfl)

/-! ## The columns -/

/-- The mean column. -/
def muC : FVec Ideal S2048x1 .f32 :=
  Host.divf (broadcastInDim S2048x1 ![0] bcast_S2048_S2048x1_0
    (Host.reduceAdd X (constant S_ .f32 0x00000000#32) reducesTo_S2048x1024_S2048_d1 h_S_))
    (broadcastInDim S2048x1 ![] bcast_S_S2048x1 (constant S_ .f32 0x44800000#32))

/-- The distances from the mean. -/
def distC : FVec Ideal S2048x1024 .f32 := subf X (broadcastInDim S2048x1024 ![0, 1] bcast_S2048x1_S2048x1024_0_1 (muC X))

/-- The divisor of the variance: the row length less zero degrees of freedom. -/
def dofC : FVec Ideal S_ .f32 := subf (constant S_ .f32 0x44800000#32) (sitofp .f32 (constantI S_ 32 0#32))

/-- The variance column, with its guard on the divisor. -/
def varC : FVec Ideal S2048x1 .f32 :=
  select (broadcastInDim S2048x1 ![] bcast_S_S2048x1 (cmpf .ogt dofC (constant S_ .f32 0x00000000#32)))
    (Host.divf (broadcastInDim S2048x1 ![0] bcast_S2048_S2048x1_0
      (Host.reduceAdd (mulf (distC X) (distC X)) (constant S_ .f32 0x00000000#32) reducesTo_S2048x1024_S2048_d1 h_S_))
      (broadcastInDim S2048x1 ![] bcast_S_S2048x1 dofC))
    (broadcastInDim S2048x1 ![] bcast_S_S2048x1 (id (constant S_ .f32 0x7FC00000#32)))

/-- The scale column. -/
def rstdC : FVec Ideal S2048x1 .f32 :=
  Host.divf (broadcastInDim S2048x1 ![] bcast_S_S2048x1 (constant S_ .f32 0x3F800000#32))
    (Host.sqrt (addf (varC X) (broadcastInDim S2048x1 ![] bcast_S_S2048x1 (constant S_ .f32 0x3727C5AC#32))))

/-- The reference's result. -/
def out : FVec Ideal S2x1024 .f32 :=
  concatenate S2x1024 0
    [⟨S1x1024, broadcastInDim S1x1024 ![1] bcast_S1024_S1x1024_1
      (Host.reduceAdd (mulf DY (mulf (distC X) (broadcastInDim S2048x1024 ![0, 1] bcast_S2048x1_S2048x1024_0_1 (rstdC X))))
        (constant S_ .f32 0x00000000#32) reducesTo_S2048x1024_S1024_d0 h_S_)⟩,
     ⟨S1x1024, broadcastInDim S1x1024 ![1] bcast_S1024_S1x1024_1
      (Host.reduceAdd DY (constant S_ .f32 0x00000000#32) reducesTo_S2048x1024_S1024_d0 h_S_)⟩]
    concatenates_S1x1024_S1x1024_S2x1024_d0

/-- Row `r` of `X`. -/
abbrev row (r : Fin 2048) : Fin 1024 → EReal := fun j => X (ix2 r j)

/-- The mean column at a row. -/
theorem mu_apply (r : Fin 2048) : muC X (ix2 r 0) = rowMean (row X r) := by
  unfold muC
  rw [hostDivf_apply, column_apply, along_apply, scalar_apply]
  rfl

/-- The distances at an entry. -/
theorem dist_apply (r : Fin 2048) (j : Fin 1024) : distC X (ix2 r j) = X (ix2 r j) - rowMean (row X r) := by
  unfold distC
  rw [subf_apply, lanes_apply, mu_apply]

/-- The divisor is the row length. -/
theorem dof_apply (i : S_.Idx) : dofC i = rowLen := by
  unfold dofC
  rw [subf_apply, constant_apply, sitofp_apply]
  show rowLen - (((0#32 : BitVec 32).toInt : ℝ) : EReal) = rowLen
  simp

/-- The guard on the divisor holds. -/
theorem guard_apply (i : S_.Idx) : cmpf .ogt dofC (constant (F := Ideal) S_ .f32 0x00000000#32) i = 1#1 := by
  rw [cmpf_apply, dof_apply, constant_apply, Ideal.ofBits_zero_f32, rowLen_eq]
  show Ideal.cmp .ogt _ _ = 1#1
  simp [Ideal.cmp]

/-- The variance column at a row: the mean of the squared distances. -/
theorem var_apply (r : Fin 2048) : varC X (ix2 r 0)
    = Ideal.div (∑ j, (X (ix2 r j) - rowMean (row X r)) * (X (ix2 r j) - rowMean (row X r))) rowLen := by
  unfold varC
  rw [select_apply, scalar_apply, guard_apply, select_one, hostDivf_apply, column_apply, along_apply, scalar_apply, dof_apply]
  simp only [mulf_apply, dist_apply]

/-- The scale column at a row. -/
theorem rstd_apply (r : Fin 2048) : rstdC X (ix2 r 0) = scaleR (row X r) := by
  unfold rstdC
  rw [hostDivf_apply, scalar_apply, constant_apply, Ideal.ofBits_one_f32]
  show Ideal.div 1 (Ideal.sqrt (addf (varC X) _ (ix2 r 0))) = _
  rw [addf_apply, var_apply, scalar_apply]
  rfl

theorem stack_zero (a b : FVec Ideal S1x1024 .f32) (h : Shape.Concatenates [S1x1024, S1x1024] S2x1024 0) (j : Fin 1024) :
    concatenate S2x1024 0 [⟨S1x1024, a⟩, ⟨S1x1024, b⟩] h (ix2 0 j) = a (ix2 0 j) :=
  concatenate_pair_apply_left (t := S2x1024) (s₁ := S1x1024) (s₂ := S1x1024) 0 a b h _ rfl (ix2 0 j) fun b => by
    match b with | ⟨0, _⟩ => rfl | ⟨1, _⟩ => rfl

theorem stack_one (a b : FVec Ideal S1x1024 .f32) (h : Shape.Concatenates [S1x1024, S1x1024] S2x1024 0) (j : Fin 1024) :
    concatenate S2x1024 0 [⟨S1x1024, a⟩, ⟨S1x1024, b⟩] h (ix2 1 j) = b (ix2 0 j) :=
  concatenate_pair_apply_right (t := S2x1024) (s₁ := S1x1024) (s₂ := S1x1024) 0 a b h _ rfl rfl (ix2 0 j)
    (fun b hb => by match b with | ⟨0, _⟩ => exact absurd rfl hb | ⟨1, _⟩ => rfl) rfl

/-- The first row of the reference's result. -/
theorem out_zero (j : Fin 1024) : out X DY (ix2 0 j)
    = ∑ r : Fin 2048, DY (ix2 r j) * ((X (ix2 r j) - rowMean (row X r)) * scaleR (row X r)) := by
  unfold out
  rw [stack_zero, line_apply, down_apply]
  refine Finset.sum_congr rfl fun r _ => ?_
  rw [mulf_apply, mulf_apply, dist_apply, lanes_apply, rstd_apply]

/-- The second row of the reference's result. -/
theorem out_one (j : Fin 1024) : out X DY (ix2 1 j) = ∑ r : Fin 2048, DY (ix2 r j) := by
  unfold out
  rw [stack_one, line_apply, down_apply]

/-- The reference's run: it ends with that result, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Exchange.Ref

end
-- ==== Proof.Value.lean ====
/-
# The value claim

On finite `x`, the kernel's result on every device is the reference's.
-/
module

public import proofs.«01_k».proof.Defs
public import proofs.«01_k».proof.Proof.Frames
public import proofs.«01_k».proof.Proof.Whole
public import proofs.«01_k».proof.Proof.Reference
public import Idealize.ShloMosaic.Lib.ReduceAll

@[expose] public section

noncomputable section

namespace Cert.Exchange

open Idealize.ShloMosaic Idealize.ShloMosaic.TcCoe Idealize.ShloMosaic.ValueIdx Idealize.SL.Sem
open scoped BigOperators

/-- The precondition's side conditions, at the kernel's arguments. -/
theorem facts_pre_kernel : Cert.Pre_x_finite_KernelIdeal.Facts := ⟨by decide, by decide, by decide⟩
/-- The precondition's side conditions, at the reference's arguments. -/
theorem facts_pre_reference : Cert.Pre_x_finite_ReferenceIdeal.Facts := ⟨by decide, by decide, by decide⟩

instance : Cert.Pre_x_finite_KernelIdeal.Facts := facts_pre_kernel
instance : Cert.Pre_x_finite_ReferenceIdeal.Facts := facts_pre_reference

/-- The pattern of positive infinity. -/
theorem inf_eq : Ideal.ofBits .f32 0x7F800000#32 = ⊤ := by
  simp [Ideal.ofBits, Ideal.ieee]

/-- An extended real whose absolute value is below infinity is a real. -/
theorem real_of_abs_lt {x : EReal} (h : max x (-x) < ⊤) : ∃ r : ℝ, x = (r : EReal) := by
  induction x using EReal.rec with
  | bot => simp at h
  | top => simp at h
  | coe r => exact ⟨r, rfl⟩

/-- The precondition says that every entry of the block is a real. -/
theorem entries_real (x dy : FVec Ideal Cert.Pre_x_finite_KernelIdeal.S1024x1024 .f32) (g : FVec Ideal Cert.Pre_x_finite_KernelIdeal.S1024 .f32)
    (h : Cert.Pre_x_finite_KernelIdeal.fn (F := Ideal) x dy g = fun _ => 1#1) (i : Cert.Pre_x_finite_KernelIdeal.S1024x1024.Idx) :
    ∃ r : ℝ, x i = (r : EReal) := by
  have : Subsingleton Cert.Pre_x_finite_KernelIdeal.S_.Idx := ⟨fun a b => funext fun d => d.elim0⟩
  have e := Host.reduce_andi_all _ _ _ _ ix0 (congrFun h ix0) i
  rw [cmpf_apply] at e
  have e' : Ideal.cmp .olt (max (x i) (-(x i))) (Ideal.ofBits .f32 0x7F800000#32) = 1#1 := e
  rw [inf_eq] at e'
  refine real_of_abs_lt ?_
  by_contra hn
  simp [Ideal.cmp, hn] at e'

/-- So every entry of the whole `x` is a real. -/
theorem whole_real (m : (ℓ : Loc Cert.KernelIdeal.nD Cert.KernelIdeal.τ Cert.KernelIdeal.sig) → Buf (Elt Ideal) ℓ) (X : FVec Ideal WholeS .f32)
    (hp : Cert.Pre_KernelIdeal_x_finite_KernelIdeal m) (hX : HoldsX m X) (r : Fin 2048) (j : Fin 1024) :
    ∃ v : ℝ, X (ix2 r j) = (v : EReal) := by
  have hc : r.val / 1024 < 8 := by omega
  obtain ⟨v, hv⟩ := entries_real _ _ _ (hp ⟨r.val / 1024, hc⟩) (ix2 (⟨r.val % 1024, by omega⟩ : Fin 1024) j)
  refine ⟨v, ?_⟩
  rw [← hv, hX]
  refine congrArg X (Shape.idx_ext₂ ?_ ?_)
  · rw [Layout.TilesN.idx_val]
    show r.val = Layout.meshLin [2, 2, 2] (r.val / 1024) [2] * 1024 + r.val % 1024
    have : r.val / 1024 = 0 ∨ r.val / 1024 = 1 := by omega
    rcases this with h | h <;> rw [h]
    · show r.val = 0 * 1024 + r.val % 1024
      omega
    · show r.val = 1 * 1024 + r.val % 1024
      omega
  · rw [Layout.TilesN.idx_val]
    show j.val = 0 * 1024 + j.val
    omega

/-- The kernel's result is the reference's, on every device. -/
theorem result_eq (m : (ℓ : Loc Cert.KernelIdeal.nD Cert.KernelIdeal.τ Cert.KernelIdeal.sig) → Buf (Elt Ideal) ℓ) (X DY : FVec Ideal WholeS .f32)
    (hX : HoldsX m X) (hD : HoldsDY m DY) (hr : ∀ r j, ∃ v : ℝ, X (ix2 r j) = (v : EReal)) (c : Dev Cert.KernelIdeal.nD) :
    outAt m c = Ref.out X DY := by
  funext i
  obtain ⟨a, j, rfl⟩ : ∃ (a : Fin 2) (j : Fin 1024), i = ix2 a j := ⟨i 0, i 1, eq_ix2 i⟩
  have ha : a = 0 ∨ a = 1 := by omega
  rcases ha with rfl | rfl
  · refine (out_zero hX hD c j).trans ((Finset.sum_congr rfl fun r _ => ?_).trans (Ref.out_zero X DY j).symm)
    rw [termK, scale_eq _ fun l => hr r l]
  · exact (out_one hD c j).trans (Ref.out_one X DY j).symm

/-- The value claim. -/
theorem values : Cert.algebraic_KernelIdeal_ReferenceIdeal_pre_x_finite_KernelIdeal := by
  intro m g m' g' hp hm
  let X : FVec Ideal WholeS .f32 := m' (((0 : Dev Cert.ReferenceIdeal.nD).tc : Thread Cert.ReferenceIdeal.nD Cert.ReferenceIdeal.τ).loc Cert.ReferenceIdeal.main_arg0)
  let DY : FVec Ideal WholeS .f32 := m' (((0 : Dev Cert.ReferenceIdeal.nD).tc : Thread Cert.ReferenceIdeal.nD Cert.ReferenceIdeal.τ).loc Cert.ReferenceIdeal.main_arg1)
  have hX : HoldsX m X := fun c => (hm c).1
  have hD : HoldsDY m DY := fun c => (hm c).2.1
  refine ⟨Ref.out X DY, ?_, ?_⟩
  · refine (θ_run _ _ _).mono (fun r h c => ?_) (run_main m g)
    exact ⟨((h.1 c).1).trans (result_eq m X DY hX hD (whole_real m X hp hX) c), (h.1 c).2⟩
  · exact (θ_run _ _ _).mono (fun r h => h 0) (Ref.run m' g')

end Cert.Exchange

end
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem Cert.Exchange

theorem claim : Cert.Claim :=
  ⟨Cert.Kernel.Gen.facts, Cert.KernelIdeal.Gen.facts, Cert.ReferenceIdeal.Gen.facts, facts_pre_kernel, facts_pre_reference,
    frame_kernel, frame_ideal, fun m ρ _ => frame_ideal m ρ trivial, frame_reference, fun m ρ _ => frame_reference m ρ trivial,
    trivial, values⟩

end Cert.Proof

end
